-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_queries_and_keys_KernelIdeal [hPre_finite_queries_and_keys_KernelIdeal : Cert.Pre_finite_queries_and_keys_KernelIdeal.Facts] (m : (ℓ : Loc Cert.KernelIdeal.nD Cert.KernelIdeal.τ Cert.KernelIdeal.sig) → Buf (Elt Ideal) ℓ) : Prop :=
  ∀ c : Dev Cert.KernelIdeal.nD,
    (Cert.Pre_finite_queries_and_keys_KernelIdeal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))).1 = (fun _ => 1#1)
    ∧ (Cert.Pre_finite_queries_and_keys_KernelIdeal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))).2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_queries_and_keys_ReferenceIdeal [hPre_finite_queries_and_keys_ReferenceIdeal : Cert.Pre_finite_queries_and_keys_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_queries_and_keys_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))).1 = (fun _ => 1#1)
    ∧ (Cert.Pre_finite_queries_and_keys_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))).2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_KernelIdeal_pre_finite_queries_and_keys_KernelIdeal [hKernelIdeal : Cert.KernelIdeal.Facts] [hPre_finite_queries_and_keys_KernelIdeal : Cert.Pre_finite_queries_and_keys_KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_queries_and_keys_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_ReferenceIdeal_pre_finite_queries_and_keys_ReferenceIdeal [hReferenceIdeal : Cert.ReferenceIdeal.Facts] [hPre_finite_queries_and_keys_ReferenceIdeal : Cert.Pre_finite_queries_and_keys_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_queries_and_keys_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def preserves_Kernel_KernelIdeal : Prop :=
  True

def algebraic_KernelIdeal_ReferenceIdeal_pre_finite_queries_and_keys_KernelIdeal [hKernelIdeal : Cert.KernelIdeal.Facts] [hReferenceIdeal : Cert.ReferenceIdeal.Facts] [hPre_finite_queries_and_keys_KernelIdeal : Cert.Pre_finite_queries_and_keys_KernelIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_queries_and_keys_KernelIdeal m →
    (∀ c : Dev Cert.KernelIdeal.nD,
      m ((c.tc : Thread Cert.KernelIdeal.nD Cert.KernelIdeal.τ).loc Cert.KernelIdeal.main_arg0) = m' (((0 : Dev Cert.ReferenceIdeal.nD).tc : Thread Cert.ReferenceIdeal.nD Cert.ReferenceIdeal.τ).loc Cert.ReferenceIdeal.main_arg0)
      ∧ m ((c.tc : Thread Cert.KernelIdeal.nD Cert.KernelIdeal.τ).loc Cert.KernelIdeal.main_arg1) = Layout.blockN ⟨4, ![16, 1024, 16, 64]⟩ ⟨4, ![16, 4096, 16, 64]⟩ (Layout.meshBlock [2, 4, 4] ![[], [2], [], []] c) (m' (((0 : Dev Cert.ReferenceIdeal.nD).tc : Thread Cert.ReferenceIdeal.nD Cert.ReferenceIdeal.τ).loc Cert.ReferenceIdeal.main_arg1))
      ∧ m ((c.tc : Thread Cert.KernelIdeal.nD Cert.KernelIdeal.τ).loc Cert.KernelIdeal.main_arg2) = Layout.blockN ⟨4, ![16, 1024, 16, 64]⟩ ⟨4, ![16, 4096, 16, 64]⟩ (Layout.meshBlock [2, 4, 4] ![[], [2], [], []] c) (m' (((0 : Dev Cert.ReferenceIdeal.nD).tc : Thread Cert.ReferenceIdeal.nD Cert.ReferenceIdeal.τ).loc Cert.ReferenceIdeal.main_arg2))) →
    ∃ (v0 : Buf (Elt Ideal) (((0 : Dev Cert.ReferenceIdeal.nD).tc : Thread Cert.ReferenceIdeal.nD Cert.ReferenceIdeal.τ).loc Cert.ReferenceIdeal.main_v18)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v18) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1)
          ∧ r.2.mem (((0 : Dev Cert.ReferenceIdeal.nD).tc : Thread Cert.ReferenceIdeal.nD Cert.ReferenceIdeal.τ).loc Cert.ReferenceIdeal.main_arg2) = m' (((0 : Dev Cert.ReferenceIdeal.nD).tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_queries_and_keys_KernelIdeal : Cert.Pre_finite_queries_and_keys_KernelIdeal.Facts) (hPre_finite_queries_and_keys_ReferenceIdeal : Cert.Pre_finite_queries_and_keys_ReferenceIdeal.Facts),
    quiescent_Kernel (hKernel := hKernel)
    ∧ quiescent_KernelIdeal (hKernelIdeal := hKernelIdeal)
    ∧ quiescent_KernelIdeal_pre_finite_queries_and_keys_KernelIdeal (hKernelIdeal := hKernelIdeal) (hPre_finite_queries_and_keys_KernelIdeal := hPre_finite_queries_and_keys_KernelIdeal)
    ∧ quiescent_ReferenceIdeal (hReferenceIdeal := hReferenceIdeal)
    ∧ quiescent_ReferenceIdeal_pre_finite_queries_and_keys_ReferenceIdeal (hReferenceIdeal := hReferenceIdeal) (hPre_finite_queries_and_keys_ReferenceIdeal := hPre_finite_queries_and_keys_ReferenceIdeal)
    ∧ preserves_Kernel_KernelIdeal
    ∧ algebraic_KernelIdeal_ReferenceIdeal_pre_finite_queries_and_keys_KernelIdeal (hKernelIdeal := hKernelIdeal) (hReferenceIdeal := hReferenceIdeal) (hPre_finite_queries_and_keys_KernelIdeal := hPre_finite_queries_and_keys_KernelIdeal)
-- ==== Pre_finite_queries_and_keys_KernelIdeal.lean ====
abbrev S16x1x16x64 : Shape := ⟨4, ![16, 1, 16, 64]⟩
abbrev S16x1024x16x64 : Shape := ⟨4, ![16, 1024, 16, 64]⟩
abbrev S_ : Shape := ⟨0, ![]⟩

class Facts : Prop where
  bcast_S_S16x1x16x64 : S_.BroadcastsInDim S16x1x16x64 (![] : Fin 0 → Fin S16x1x16x64.rank)
  bcast_S_S16x1024x16x64 : S_.BroadcastsInDim S16x1024x16x64 (![] : Fin 0 → Fin S16x1024x16x64.rank)

variable [Facts]

def fn {F : FTy → Type} [FloatOps F] (main_arg0 : FVec F S16x1x16x64 .bf16) (main_arg1 : FVec F S16x1024x16x64 .bf16) (main_arg2 : FVec F S16x1024x16x64 .bf16) : IVec S16x1x16x64 1 × IVec S16x1024x16x64 1 :=
  let main_v0 : FVec F S16x1x16x64 .bf16 := Host.absf main_arg0
  let main_cst : FVec F S_ .bf16 := constant S_ .bf16 0x7F80#16
  let main_v1 : FVec F S16x1x16x64 .bf16 := broadcastInDim S16x1x16x64 ![] bcast_S_S16x1x16x64 main_cst
  let main_v2 : IVec S16x1x16x64 1 := cmpf .olt main_v0 main_v1
  let main_v3 : FVec F S16x1024x16x64 .bf16 := Host.absf main_arg1
  let main_cst_0 : FVec F S_ .bf16 := constant S_ .bf16 0x7F80#16
  let main_v4 : FVec F S16x1024x16x64 .bf16 := broadcastInDim S16x1024x16x64 ![] bcast_S_S16x1024x16x64 main_cst_0
  let main_v5 : IVec S16x1024x16x64 1 := cmpf .olt main_v3 main_v4
  (main_v2, main_v5)
-- ==== Pre_finite_queries_and_keys_ReferenceIdeal.lean ====
abbrev S16x1x16x64 : Shape := ⟨4, ![16, 1, 16, 64]⟩
abbrev S16x4096x16x64 : Shape := ⟨4, ![16, 4096, 16, 64]⟩
abbrev S_ : Shape := ⟨0, ![]⟩

class Facts : Prop where
  bcast_S_S16x1x16x64 : S_.BroadcastsInDim S16x1x16x64 (![] : Fin 0 → Fin S16x1x16x64.rank)
  bcast_S_S16x4096x16x64 : S_.BroadcastsInDim S16x4096x16x64 (![] : Fin 0 → Fin S16x4096x16x64.rank)

variable [Facts]

def fn {F : FTy → Type} [FloatOps F] (main_arg0 : FVec F S16x1x16x64 .bf16) (main_arg1 : FVec F S16x4096x16x64 .bf16) (main_arg2 : FVec F S16x4096x16x64 .bf16) : IVec S16x1x16x64 1 × IVec S16x4096x16x64 1 :=
  let main_v0 : FVec F S16x1x16x64 .bf16 := Host.absf main_arg0
  let main_cst : FVec F S_ .bf16 := constant S_ .bf16 0x7F80#16
  let main_v1 : FVec F S16x1x16x64 .bf16 := broadcastInDim S16x1x16x64 ![] bcast_S_S16x1x16x64 main_cst
  let main_v2 : IVec S16x1x16x64 1 := cmpf .olt main_v0 main_v1
  let main_v3 : FVec F S16x4096x16x64 .bf16 := Host.absf main_arg1
  let main_cst_0 : FVec F S_ .bf16 := constant S_ .bf16 0x7F80#16
  let main_v4 : FVec F S16x4096x16x64 .bf16 := broadcastInDim S16x4096x16x64 ![] bcast_S_S16x4096x16x64 main_cst_0
  let main_v5 : IVec S16x4096x16x64 1 := cmpf .olt main_v3 main_v4
  (main_v2, main_v5)
-- ==== Kernel.lean ====
abbrev S16x1x16x64 : Shape := ⟨4, ![16, 1, 16, 64]⟩
abbrev S16x1024x16x64 : Shape := ⟨4, ![16, 1024, 16, 64]⟩
abbrev S1x1024x16x64 : Shape := ⟨4, ![1, 1024, 16, 64]⟩
abbrev S4x16x1024 : Shape := ⟨3, ![4, 16, 1024]⟩
abbrev S4x2x16x16 : Shape := ⟨4, ![4, 2, 16, 16]⟩
abbrev S3 : Shape := ⟨1, ![3]⟩
abbrev S1x1x16x64 : Shape := ⟨4, ![1, 1, 16, 64]⟩
abbrev S16x64 : Shape := ⟨2, ![16, 64]⟩
abbrev S1024x16x64 : Shape := ⟨3, ![1024, 16, 64]⟩
abbrev S1024x1024 : Shape := ⟨2, ![1024, 1024]⟩
abbrev S16x64x16 : Shape := ⟨3, ![16, 64, 16]⟩
abbrev S16x64x1 : Shape := ⟨3, ![16, 64, 1]⟩
abbrev S1024x16 : Shape := ⟨2, ![1024, 16]⟩
abbrev S16x1024 : Shape := ⟨2, ![16, 1024]⟩
abbrev S16 : Shape := ⟨1, ![16]⟩
abbrev S1x16 : Shape := ⟨2, ![1, 16]⟩
abbrev S1024 : Shape := ⟨1, ![1024]⟩
abbrev S1x1x1024 : Shape := ⟨3, ![1, 1, 1024]⟩
abbrev S1x1x1x16 : Shape := ⟨4, ![1, 1, 1, 16]⟩
abbrev S_ : Shape := ⟨0, ![]⟩
abbrev S1 : Shape := ⟨1, ![1]⟩
abbrev S1x16x1024 : Shape := ⟨3, ![1, 16, 1024]⟩
abbrev S1x2x16x16 : Shape := ⟨4, ![1, 2, 16, 16]⟩
abbrev S2x16x16 : Shape := ⟨3, ![2, 16, 16]⟩
abbrev S4x1x16x16 : Shape := ⟨4, ![4, 1, 16, 16]⟩
abbrev S4x16x16 : Shape := ⟨3, ![4, 16, 16]⟩
abbrev S16x16 : Shape := ⟨2, ![16, 16]⟩
abbrev S1x16x16 : Shape := ⟨3, ![1, 16, 16]⟩
abbrev S64x16 : Shape := ⟨2, ![64, 16]⟩
abbrev S64x1024 : Shape := ⟨2, ![64, 1024]⟩
abbrev S16x16x64 : Shape := ⟨3, ![16, 16, 64]⟩

abbrev nBuf : Space → Nat
  | .hbm => 4
  | .vmem => 8
  | .smem => 0
  | _ => 0

abbrev bufTy : (tb : Table) → Fin (tcTables nBuf tb) → BufTy
  | .hbm, ⟨0, _⟩ => ⟨S16x1x16x64, .bf16⟩
  | .hbm, ⟨1, _⟩ => ⟨S16x1024x16x64, .bf16⟩
  | .hbm, ⟨2, _⟩ => ⟨S16x1024x16x64, .bf16⟩
  | .hbm, ⟨3, _⟩ => ⟨S16x1x16x64, .f32⟩
  | .local _ .vmem, ⟨0, _⟩ => ⟨S16x1x16x64, .bf16⟩
  | .local _ .vmem, ⟨1, _⟩ => ⟨S1x1024x16x64, .bf16⟩
  | .local _ .vmem, ⟨2, _⟩ => ⟨S1x1024x16x64, .bf16⟩
  | .local _ .vmem, ⟨3, _⟩ => ⟨S1x1024x16x64, .bf16⟩
  | .local _ .vmem, ⟨4, _⟩ => ⟨S1x1024x16x64, .bf16⟩
  | .local _ .vmem, ⟨5, _⟩ => ⟨S16x1x16x64, .f32⟩
  | .local _ .vmem, ⟨6, _⟩ => ⟨S4x16x1024, .f32⟩
  | .local _ .vmem, ⟨7, _⟩ => ⟨S4x2x16x16, .f32⟩
  | _, _ => ⟨S16x1x16x64, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 1 → Bool
  | ⟨0, _⟩ => false
  | _ => false

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  (ofTc nBuf bufTy 1 18 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v1 : Ref sig .tc := ⟨.hbm, 3, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_scratch0 : Ref sig .tc := ⟨.vmem, 6, rfl⟩
abbrev cc0_scratch1 : Ref sig .tc := ⟨.vmem, 7, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev barrier0 : Sem sig := 0

abbrev nD : Nat := 32
abbrev τ : Topo := Topo.v7x

variable {F : FTy → Type} [FloatOps F]

abbrev grid0 : Pipeline.Grid := ⟨1, ![16], ![false]⟩

def k0_off1 (i : grid0.Coords) : Fin 4 → Nat :=
  let arg0 : BitVec 32 := BitVec.ofNat 32 (i 0).val
  let v0 : Index := Scalar.indexCast arg0
  let c0 : Index := 0#32
  let c0_0 : Index := 0#32
  let c0_1 : Index := 0#32
  ![v0.toNat, 0, 0, 0]
def k0_off2 (i : grid0.Coords) : Fin 3 → Nat :=
  let c0_22 : Index := 0#32
  let arg0 : BitVec 32 := BitVec.ofNat 32 (i 0).val
  let v62 : Index := Scalar.indexCast arg0
  let c0_23 : Index := 0#32
  ![0, v62.toNat, 0]
def k0_off3 (i : grid0.Coords) : Fin 4 → Nat :=
  let c0_24 : Index := 0#32
  let c0_25 : Index := 0#32
  let arg0 : BitVec 32 := BitVec.ofNat 32 (i 0).val
  let v66 : Index := Scalar.indexCast arg0
  let c0_26 : Index := 0#32
  ![0, 0, v66.toNat, 0]
def k0_off4 (i : grid0.Coords) : Fin 4 → Nat :=
  let c0_27 : Index := 0#32
  let c1 : Index := 1#32
  let arg0 : BitVec 32 := BitVec.ofNat 32 (i 0).val
  let v70 : Index := Scalar.indexCast arg0
  let c0_28 : Index := 0#32
  ![0, 1, v70.toNat, 0]
def k0_cond1 (i : grid0.Coords) : BitVec 1 :=
  let arg0 : BitVec 32 := BitVec.ofNat 32 (i 0).val
  let c15_i32 : BitVec 32 := 15#32
  let v74 : BitVec 1 := Scalar.cmpi .eq arg0 c15_i32
  let v75 : BitVec 32 := Scalar.extui v74
  let c0_i32_29 : BitVec 32 := 0#32
  let v76 : BitVec 1 := Scalar.cmpi .ne v75 c0_i32_29
  v76

def k0_dev1 (d77 : Dev nD) : Nat :=
  let c0_i32_37 : BitVec 32 := 0#32
  let v77 : BitVec 32 := Dev.word d77
  let c16_i32 : BitVec 32 := 16#32
  let v78 : BitVec 32 := Scalar.divsi v77 c16_i32
  let c2_i32 : BitVec 32 := 2#32
  let v79 : BitVec 32 := Scalar.remsi v78 c2_i32
  let c16_i32_36 : BitVec 32 := 16#32
  let v89 : BitVec 32 := Scalar.muli v79 c16_i32_36
  let v90 : BitVec 32 := Scalar.addi c0_i32_37 v89
  let v80 : BitVec 32 := Dev.word d77
  let c4_i32_30 : BitVec 32 := 4#32
  let v81 : BitVec 32 := Scalar.divsi v80 c4_i32_30
  let c4_i32 : BitVec 32 := 4#32
  let v82 : BitVec 32 := Scalar.remsi v81 c4_i32
  let c4_i32_38 : BitVec 32 := 4#32
  let v91 : BitVec 32 := Scalar.muli v82 c4_i32_38
  let v92 : BitVec 32 := Scalar.addi v90 v91
  let v83 : BitVec 32 := Dev.word d77
  let c1_i32_32 : BitVec 32 := 1#32
  let v84 : BitVec 32 := Scalar.divsi v83 c1_i32_32
  let c4_i32_31 : BitVec 32 := 4#32
  let v85 : BitVec 32 := Scalar.remsi v84 c4_i32_31
  let c1_i32_33 : BitVec 32 := 1#32
  let v87 : BitVec 32 := Scalar.addi v85 c1_i32_33
  let c4_i32_34 : BitVec 32 := 4#32
  let v88 : BitVec 32 := Scalar.remsi v87 c4_i32_34
  let c1_i32_39 : BitVec 32 := 1#32
  let v93 : BitVec 32 := Scalar.muli v88 c1_i32_39
  let v94 : BitVec 32 := Scalar.addi v92 v93
  v94.toNat
def k0_dev2 (d77 : Dev nD) : Nat :=
  let c0_i32_44 : BitVec 32 := 0#32
  let v77 : BitVec 32 := Dev.word d77
  let c16_i32 : BitVec 32 := 16#32
  let v78 : BitVec 32 := Scalar.divsi v77 c16_i32
  let c2_i32 : BitVec 32 := 2#32
  let v79 : BitVec 32 := Scalar.remsi v78 c2_i32
  let c16_i32_43 : BitVec 32 := 16#32
  let v97 : BitVec 32 := Scalar.muli v79 c16_i32_43
  let v98 : BitVec 32 := Scalar.addi c0_i32_44 v97
  let v80 : BitVec 32 := Dev.word d77
  let c4_i32_30 : BitVec 32 := 4#32
  let v81 : BitVec 32 := Scalar.divsi v80 c4_i32_30
  let c4_i32 : BitVec 32 := 4#32
  let v82 : BitVec 32 := Scalar.remsi v81 c4_i32
  let c4_i32_45 : BitVec 32 := 4#32
  let v99 : BitVec 32 := Scalar.muli v82 c4_i32_45
  let v100 : BitVec 32 := Scalar.addi v98 v99
  let v83 : BitVec 32 := Dev.word d77
  let c1_i32_32 : BitVec 32 := 1#32
  let v84 : BitVec 32 := Scalar.divsi v83 c1_i32_32
  let c4_i32_31 : BitVec 32 := 4#32
  let v85 : BitVec 32 := Scalar.remsi v84 c4_i32_31
  let c2_i32_40 : BitVec 32 := 2#32
  let v95 : BitVec 32 := Scalar.addi v85 c2_i32_40
  let c4_i32_41 : BitVec 32 := 4#32
  let v96 : BitVec 32 := Scalar.remsi v95 c4_i32_41
  let c1_i32_46 : BitVec 32 := 1#32
  let v101 : BitVec 32 := Scalar.muli v96 c1_i32_46
  let v102 : BitVec 32 := Scalar.addi v100 v101
  v102.toNat
def k0_dev3 (d77 : Dev nD) : Nat :=
  let c0_i32_50 : BitVec 32 := 0#32
  let v77 : BitVec 32 := Dev.word d77
  let c16_i32 : BitVec 32 := 16#32
  let v78 : BitVec 32 := Scalar.divsi v77 c16_i32
  let c2_i32 : BitVec 32 := 2#32
  let v79 : BitVec 32 := Scalar.remsi v78 c2_i32
  let c16_i32_49 : BitVec 32 := 16#32
  let v105 : BitVec 32 := Scalar.muli v79 c16_i32_49
  let v106 : BitVec 32 := Scalar.addi c0_i32_50 v105
  let v80 : BitVec 32 := Dev.word d77
  let c4_i32_30 : BitVec 32 := 4#32
  let v81 : BitVec 32 := Scalar.divsi v80 c4_i32_30
  let c4_i32 : BitVec 32 := 4#32
  let v82 : BitVec 32 := Scalar.remsi v81 c4_i32
  let c4_i32_51 : BitVec 32 := 4#32
  let v107 : BitVec 32 := Scalar.muli v82 c4_i32_51
  let v108 : BitVec 32 := Scalar.addi v106 v107
  let v83 : BitVec 32 := Dev.word d77
  let c1_i32_32 : BitVec 32 := 1#32
  let v84 : BitVec 32 := Scalar.divsi v83 c1_i32_32
  let c4_i32_31 : BitVec 32 := 4#32
  let v85 : BitVec 32 := Scalar.remsi v84 c4_i32_31
  let c3_i32 : BitVec 32 := 3#32
  let v103 : BitVec 32 := Scalar.addi v85 c3_i32
  let c4_i32_47 : BitVec 32 := 4#32
  let v104 : BitVec 32 := Scalar.remsi v103 c4_i32_47
  let c1_i32_52 : BitVec 32 := 1#32
  let v109 : BitVec 32 := Scalar.muli v104 c1_i32_52
  let v110 : BitVec 32 := Scalar.addi v108 v109
  v110.toNat
def k0_dev4 (d77 : Dev nD) : Nat :=
  let c0_i32_61 : BitVec 32 := 0#32
  let v77 : BitVec 32 := Dev.word d77
  let c16_i32 : BitVec 32 := 16#32
  let v78 : BitVec 32 := Scalar.divsi v77 c16_i32
  let c2_i32 : BitVec 32 := 2#32
  let v79 : BitVec 32 := Scalar.remsi v78 c2_i32
  let c16_i32_60 : BitVec 32 := 16#32
  let v113 : BitVec 32 := Scalar.muli v79 c16_i32_60
  let v114 : BitVec 32 := Scalar.addi c0_i32_61 v113
  let v80 : BitVec 32 := Dev.word d77
  let c4_i32_30 : BitVec 32 := 4#32
  let v81 : BitVec 32 := Scalar.divsi v80 c4_i32_30
  let c4_i32 : BitVec 32 := 4#32
  let v82 : BitVec 32 := Scalar.remsi v81 c4_i32
  let c4_i32_62 : BitVec 32 := 4#32
  let v115 : BitVec 32 := Scalar.muli v82 c4_i32_62
  let v116 : BitVec 32 := Scalar.addi v114 v115
  let v83 : BitVec 32 := Dev.word d77
  let c1_i32_32 : BitVec 32 := 1#32
  let v84 : BitVec 32 := Scalar.divsi v83 c1_i32_32
  let c4_i32_31 : BitVec 32 := 4#32
  let v85 : BitVec 32 := Scalar.remsi v84 c4_i32_31
  let c1_i32_54 : BitVec 32 := 1#32
  let v111 : BitVec 32 := Scalar.addi v85 c1_i32_54
  let c4_i32_55 : BitVec 32 := 4#32
  let v112 : BitVec 32 := Scalar.remsi v111 c4_i32_55
  let c1_i32_63 : BitVec 32 := 1#32
  let v117 : BitVec 32 := Scalar.muli v112 c1_i32_63
  let v118 : BitVec 32 := Scalar.addi v116 v117
  v118.toNat
def k0_dev5 (d77 : Dev nD) : Nat :=
  let c0_i32_73 : BitVec 32 := 0#32
  let v77 : BitVec 32 := Dev.word d77
  let c16_i32 : BitVec 32 := 16#32
  let v78 : BitVec 32 := Scalar.divsi v77 c16_i32
  let c2_i32 : BitVec 32 := 2#32
  let v79 : BitVec 32 := Scalar.remsi v78 c2_i32
  let c16_i32_72 : BitVec 32 := 16#32
  let v127 : BitVec 32 := Scalar.muli v79 c16_i32_72
  let v128 : BitVec 32 := Scalar.addi c0_i32_73 v127
  let v80 : BitVec 32 := Dev.word d77
  let c4_i32_30 : BitVec 32 := 4#32
  let v81 : BitVec 32 := Scalar.divsi v80 c4_i32_30
  let c4_i32 : BitVec 32 := 4#32
  let v82 : BitVec 32 := Scalar.remsi v81 c4_i32
  let c4_i32_74 : BitVec 32 := 4#32
  let v129 : BitVec 32 := Scalar.muli v82 c4_i32_74
  let v130 : BitVec 32 := Scalar.addi v128 v129
  let v83 : BitVec 32 := Dev.word d77
  let c1_i32_32 : BitVec 32 := 1#32
  let v84 : BitVec 32 := Scalar.divsi v83 c1_i32_32
  let c4_i32_31 : BitVec 32 := 4#32
  let v85 : BitVec 32 := Scalar.remsi v84 c4_i32_31
  let c1_i32_54 : BitVec 32 := 1#32
  let v111 : BitVec 32 := Scalar.addi v85 c1_i32_54
  let c4_i32_55 : BitVec 32 := 4#32
  let v112 : BitVec 32 := Scalar.remsi v111 c4_i32_55
  let c1_i32_75 : BitVec 32 := 1#32
  let v131 : BitVec 32 := Scalar.muli v112 c1_i32_75
  let v132 : BitVec 32 := Scalar.addi v130 v131
  v132.toNat
def k0_dev6 (d77 : Dev nD) : Nat :=
  let c0_i32_89 : BitVec 32 := 0#32
  let v77 : BitVec 32 := Dev.word d77
  let c16_i32 : BitVec 32 := 16#32
  let v78 : BitVec 32 := Scalar.divsi v77 c16_i32
  let c2_i32 : BitVec 32 := 2#32
  let v79 : BitVec 32 := Scalar.remsi v78 c2_i32
  let c16_i32_88 : BitVec 32 := 16#32
  let v143 : BitVec 32 := Scalar.muli v79 c16_i32_88
  let v144 : BitVec 32 := Scalar.addi c0_i32_89 v143
  let v80 : BitVec 32 := Dev.word d77
  let c4_i32_30 : BitVec 32 := 4#32
  let v81 : BitVec 32 := Scalar.divsi v80 c4_i32_30
  let c4_i32 : BitVec 32 := 4#32
  let v82 : BitVec 32 := Scalar.remsi v81 c4_i32
  let c4_i32_90 : BitVec 32 := 4#32
  let v145 : BitVec 32 := Scalar.muli v82 c4_i32_90
  let v146 : BitVec 32 := Scalar.addi v144 v145
  let v83 : BitVec 32 := Dev.word d77
  let c1_i32_32 : BitVec 32 := 1#32
  let v84 : BitVec 32 := Scalar.divsi v83 c1_i32_32
  let c4_i32_31 : BitVec 32 := 4#32
  let v85 : BitVec 32 := Scalar.remsi v84 c4_i32_31
  let c2_i32_82 : BitVec 32 := 2#32
  let v141 : BitVec 32 := Scalar.addi v85 c2_i32_82
  let c4_i32_83 : BitVec 32 := 4#32
  let v142 : BitVec 32 := Scalar.remsi v141 c4_i32_83
  let c1_i32_91 : BitVec 32 := 1#32
  let v147 : BitVec 32 := Scalar.muli v142 c1_i32_91
  let v148 : BitVec 32 := Scalar.addi v146 v147
  v148.toNat
def k0_dev7 (d77 : Dev nD) : Nat :=
  let c0_i32_101 : BitVec 32 := 0#32
  let v77 : BitVec 32 := Dev.word d77
  let c16_i32 : BitVec 32 := 16#32
  let v78 : BitVec 32 := Scalar.divsi v77 c16_i32
  let c2_i32 : BitVec 32 := 2#32
  let v79 : BitVec 32 := Scalar.remsi v78 c2_i32
  let c16_i32_100 : BitVec 32 := 16#32
  let v157 : BitVec 32 := Scalar.muli v79 c16_i32_100
  let v158 : BitVec 32 := Scalar.addi c0_i32_101 v157
  let v80 : BitVec 32 := Dev.word d77
  let c4_i32_30 : BitVec 32 := 4#32
  let v81 : BitVec 32 := Scalar.divsi v80 c4_i32_30
  let c4_i32 : BitVec 32 := 4#32
  let v82 : BitVec 32 := Scalar.remsi v81 c4_i32
  let c4_i32_102 : BitVec 32 := 4#32
  let v159 : BitVec 32 := Scalar.muli v82 c4_i32_102
  let v160 : BitVec 32 := Scalar.addi v158 v159
  let v83 : BitVec 32 := Dev.word d77
  let c1_i32_32 : BitVec 32 := 1#32
  let v84 : BitVec 32 := Scalar.divsi v83 c1_i32_32
  let c4_i32_31 : BitVec 32 := 4#32
  let v85 : BitVec 32 := Scalar.remsi v84 c4_i32_31
  let c2_i32_82 : BitVec 32 := 2#32
  let v141 : BitVec 32 := Scalar.addi v85 c2_i32_82
  let c4_i32_83 : BitVec 32 := 4#32
  let v142 : BitVec 32 := Scalar.remsi v141 c4_i32_83
  let c1_i32_103 : BitVec 32 := 1#32
  let v161 : BitVec 32 := Scalar.muli v142 c1_i32_103
  let v162 : BitVec 32 := Scalar.addi v160 v161
  v162.toNat
def k0_dev8 (d77 : Dev nD) : Nat :=
  let c0_i32_117 : BitVec 32 := 0#32
  let v77 : BitVec 32 := Dev.word d77
  let c16_i32 : BitVec 32 := 16#32
  let v78 : BitVec 32 := Scalar.divsi v77 c16_i32
  let c2_i32 : BitVec 32 := 2#32
  let v79 : BitVec 32 := Scalar.remsi v78 c2_i32
  let c16_i32_116 : BitVec 32 := 16#32
  let v173 : BitVec 32 := Scalar.muli v79 c16_i32_116
  let v174 : BitVec 32 := Scalar.addi c0_i32_117 v173
  let v80 : BitVec 32 := Dev.word d77
  let c4_i32_30 : BitVec 32 := 4#32
  let v81 : BitVec 32 := Scalar.divsi v80 c4_i32_30
  let c4_i32 : BitVec 32 := 4#32
  let v82 : BitVec 32 := Scalar.remsi v81 c4_i32
  let c4_i32_118 : BitVec 32 := 4#32
  let v175 : BitVec 32 := Scalar.muli v82 c4_i32_118
  let v176 : BitVec 32 := Scalar.addi v174 v175
  let v83 : BitVec 32 := Dev.word d77
  let c1_i32_32 : BitVec 32 := 1#32
  let v84 : BitVec 32 := Scalar.divsi v83 c1_i32_32
  let c4_i32_31 : BitVec 32 := 4#32
  let v85 : BitVec 32 := Scalar.remsi v84 c4_i32_31
  let c3_i32_110 : BitVec 32 := 3#32
  let v171 : BitVec 32 := Scalar.addi v85 c3_i32_110
  let c4_i32_111 : BitVec 32 := 4#32
  let v172 : BitVec 32 := Scalar.remsi v171 c4_i32_111
  let c1_i32_119 : BitVec 32 := 1#32
  let v177 : BitVec 32 := Scalar.muli v172 c1_i32_119
  let v178 : BitVec 32 := Scalar.addi v176 v177
  v178.toNat
def k0_dev9 (d77 : Dev nD) : Nat :=
  let c0_i32_129 : BitVec 32 := 0#32
  let v77 : BitVec 32 := Dev.word d77
  let c16_i32 : BitVec 32 := 16#32
  let v78 : BitVec 32 := Scalar.divsi v77 c16_i32
  let c2_i32 : BitVec 32 := 2#32
  let v79 : BitVec 32 := Scalar.remsi v78 c2_i32
  let c16_i32_128 : BitVec 32 := 16#32
  let v187 : BitVec 32 := Scalar.muli v79 c16_i32_128
  let v188 : BitVec 32 := Scalar.addi c0_i32_129 v187
  let v80 : BitVec 32 := Dev.word d77
  let c4_i32_30 : BitVec 32 := 4#32
  let v81 : BitVec 32 := Scalar.divsi v80 c4_i32_30
  let c4_i32 : BitVec 32 := 4#32
  let v82 : BitVec 32 := Scalar.remsi v81 c4_i32
  let c4_i32_130 : BitVec 32 := 4#32
  let v189 : BitVec 32 := Scalar.muli v82 c4_i32_130
  let v190 : BitVec 32 := Scalar.addi v188 v189
  let v83 : BitVec 32 := Dev.word d77
  let c1_i32_32 : BitVec 32 := 1#32
  let v84 : BitVec 32 := Scalar.divsi v83 c1_i32_32
  let c4_i32_31 : BitVec 32 := 4#32
  let v85 : BitVec 32 := Scalar.remsi v84 c4_i32_31
  let c3_i32_110 : BitVec 32 := 3#32
  let v171 : BitVec 32 := Scalar.addi v85 c3_i32_110
  let c4_i32_111 : BitVec 32 := 4#32
  let v172 : BitVec 32 := Scalar.remsi v171 c4_i32_111
  let c1_i32_131 : BitVec 32 := 1#32
  let v191 : BitVec 32 := Scalar.muli v172 c1_i32_131
  let v192 : BitVec 32 := Scalar.addi v190 v191
  v192.toNat
def cc0_transform_0 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  let c0_i32_3 : BitVec 32 := 0#32
  ![c0_i32.toNat, c0_i32_0.toNat, c0_i32_1.toNat, c0_i32_2.toNat]

def cc0_transform_1 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_2 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_3 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  let c0_i32_3 : BitVec 32 := 0#32
  ![c0_i32.toNat, c0_i32_0.toNat, c0_i32_1.toNat, c0_i32_2.toNat]

abbrev stage0_0 : Fin 1 → Memref sig .tc .vmem S16x1x16x64 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S1x1024x16x64 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x1024x16x64 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S16x1x16x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]
-- ==== ReferenceIdeal.lean ====
abbrev S16x1x16x64 : Shape := ⟨4, ![16, 1, 16, 64]⟩
abbrev S16x4096x16x64 : Shape := ⟨4, ![16, 4096, 16, 64]⟩
abbrev S16x16x1x4096 : Shape := ⟨4, ![16, 16, 1, 4096]⟩
abbrev S_ : Shape := ⟨0, ![]⟩
abbrev S16x16x1 : Shape := ⟨3, ![16, 16, 1]⟩
abbrev S16x16x1x1 : Shape := ⟨4, ![16, 16, 1, 1]⟩
abbrev S16x16x64x1 : Shape := ⟨4, ![16, 16, 64, 1]⟩

abbrev nBuf : Space → Nat
  | .hbm => 25
  | .vmem => 0
  | .smem => 0
  | _ => 0

abbrev bufTy : (tb : Table) → Fin (tcTables nBuf tb) → BufTy
  | .hbm, ⟨0, _⟩ => ⟨S16x1x16x64, .bf16⟩
  | .hbm, ⟨1, _⟩ => ⟨S16x4096x16x64, .bf16⟩
  | .hbm, ⟨2, _⟩ => ⟨S16x4096x16x64, .bf16⟩
  | .hbm, ⟨3, _⟩ => ⟨S16x16x1x4096, .f32⟩
  | .hbm, ⟨4, _⟩ => ⟨S16x16x1x4096, .bf16⟩
  | .hbm, ⟨5, _⟩ => ⟨S_, .bf16⟩
  | .hbm, ⟨6, _⟩ => ⟨S16x16x1x4096, .bf16⟩
  | .hbm, ⟨7, _⟩ => ⟨S16x16x1x4096, .bf16⟩
  | .hbm, ⟨8, _⟩ => ⟨S_, .bf16⟩
  | .hbm, ⟨9, _⟩ => ⟨S16x16x1, .bf16⟩
  | .hbm, ⟨10, _⟩ => ⟨S16x16x1x1, .bf16⟩
  | .hbm, ⟨11, _⟩ => ⟨S16x16x1x4096, .bf16⟩
  | .hbm, ⟨12, _⟩ => ⟨S16x16x1x4096, .bf16⟩
  | .hbm, ⟨13, _⟩ => ⟨S16x16x1x4096, .bf16⟩
  | .hbm, ⟨14, _⟩ => ⟨S16x16x1x4096, .f32⟩
  | .hbm, ⟨15, _⟩ => ⟨S_, .f32⟩
  | .hbm, ⟨16, _⟩ => ⟨S16x16x1, .f32⟩
  | .hbm, ⟨17, _⟩ => ⟨S16x16x1x1, .f32⟩
  | .hbm, ⟨18, _⟩ => ⟨S16x16x1x1, .bf16⟩
  | .hbm, ⟨19, _⟩ => ⟨S16x16x1x4096, .bf16⟩
  | .hbm, ⟨20, _⟩ => ⟨S16x16x1x4096, .bf16⟩
  | .hbm, ⟨21, _⟩ => ⟨S16x16x64x1, .f32⟩
  | .hbm, ⟨22, _⟩ => ⟨S16x1x16x64, .f32⟩
  | .hbm, ⟨23, _⟩ => ⟨S16x1x16x64, .bf16⟩
  | .hbm, ⟨24, _⟩ => ⟨S16x1x16x64, .f32⟩
  | _, _ => ⟨S16x1x16x64, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_cst : Ref sig .tc := ⟨.hbm, 5, rfl⟩
abbrev main_v2 : Ref sig .tc := ⟨.hbm, 6, rfl⟩
abbrev main_v3 : Ref sig .tc := ⟨.hbm, 7, rfl⟩
abbrev main_cst_0 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_cst_1 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩

abbrev nD : Nat := 1
abbrev τ : Topo := Topo.v7x

variable {F : FTy → Type} [FloatOps F]
-- ==== Proof.Ring.lean ====
/-
The four devices along the last mesh axis, the buffers they exchange, and what each buffer holds.

Every device computes, head by head, a partial numerator (row `i` of slot 0 of the first scratch buffer) and the
partial maximum and normalizer (rows `i` of slot 0 of the second). At the last grid point the four devices of a group
announce themselves on the barrier semaphore, and each sends its slot 0 of both buffers to the three others: slot `k`
of a device ends with what the device `k` places further in the group computed.
-/
module

public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import Idealize.ShloMosaic.Lib.Pipeline.Launch
public import Idealize.ShloMosaic.Lib.Pipeline.Kit
public import Idealize.ShloMosaic.Lib.Pipeline.FrameBody
public import Idealize.ShloMosaic.Lib.Tactic

@[expose] public section

noncomputable section

namespace Cert.Flash

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-! ## The group of four -/

set_option backward.proofsInPublic true in
/-- The device `k` places after `c` in its group of four. -/
def mate (k : Fin 4) (c : Dev nD) : Dev nD :=
  ⟨c.val / 4 * 4 + (c.val + k.val) % 4, by have h : c.val < 32 := c.isLt; show _ < 32; omega⟩

/-- The partner of transfer `j`: `j + 1` places further. -/
abbrev partner (j : Fin 3) (c : Dev nD) : Dev nD := mate j.succ c

theorem mate_zero (c : Dev nD) : mate 0 c = c := Fin.ext (by show c.val / 4 * 4 + (c.val + 0) % 4 = c.val; omega)
theorem partner_rev (j : Fin 3) (c : Dev nD) : partner j.rev (partner j c) = c := by
  have h : c.val < 32 := c.isLt
  refine Fin.ext ?_
  fin_cases j
  · show (c.val / 4 * 4 + (c.val + 1) % 4) / 4 * 4 + ((c.val / 4 * 4 + (c.val + 1) % 4) + 3) % 4 = c.val; omega
  · show (c.val / 4 * 4 + (c.val + 2) % 4) / 4 * 4 + ((c.val / 4 * 4 + (c.val + 2) % 4) + 2) % 4 = c.val; omega
  · show (c.val / 4 * 4 + (c.val + 3) % 4) / 4 * 4 + ((c.val / 4 * 4 + (c.val + 3) % 4) + 1) % 4 = c.val; omega
theorem partner_rev' (j : Fin 3) (c : Dev nD) : partner j (partner j.rev c) = c := by
  conv_lhs => rw [← Fin.rev_rev j]
  rw [Fin.rev_rev j]
  simpa using partner_rev j.rev c

/-- Going `j + 1` places is a permutation of the devices. -/
def turn (j : Fin 3) : Dev nD ≃ Dev nD := ⟨partner j, partner j.rev, partner_rev j, partner_rev' j⟩

theorem dev_eq (n : ℕ) (h : n < nD) (c : Dev nD) (k : Fin 4) (e : n = 16 * (c.val / 16) + 4 * ((c.val / 4) % 4) + ((c.val % 4) + k.val) % 4) :
    (⟨n, h⟩ : Dev nD) = mate k c := by
  have h32 : c.val < 32 := c.isLt
  refine Fin.ext ?_
  show n = c.val / 4 * 4 + (c.val + k.val) % 4
  omega

/-! ## The two exchange buffers and their slots -/

abbrev oM : Memref sig .tc .vmem S4x16x1024 .f32 := Memref.whole cc0_scratch0
abbrev sM : Memref sig .tc .vmem S4x2x16x16 .f32 := Memref.whole cc0_scratch1

theorem inbO : ∀ k : Fin 4, ∀ a, (![k.val, 0, 0] : Fin 3 → Nat) a + S1x16x1024.size a ≤ S4x16x1024.size a := by decide
theorem inbT : ∀ k : Fin 4, ∀ a, (![k.val, 0, 0, 0] : Fin 4 → Nat) a + S1x2x16x16.size a ≤ S4x2x16x16.size a := by decide
theorem inbK : ∀ k : Fin 3, ∀ a, (![k.val] : Fin 1 → Nat) a + S1.size a ≤ S3.size a := by decide

/-- Slot `k` of the numerators, and of the statistics. -/
abbrev oSlot (k : Fin 4) : Memref sig .tc .vmem S16x1024 .f32 :=
  (oM.slice (Rect.unit (s := S4x16x1024) ![k.val, 0, 0] S1x16x1024.size (inbO k)) (fun _ => rfl)).squeeze S16x1024 squeezes_S1x16x1024_S16x1024
abbrev sSlot (k : Fin 4) : Memref sig .tc .vmem S2x16x16 .f32 :=
  (sM.slice (Rect.unit (s := S4x2x16x16) ![k.val, 0, 0, 0] S1x2x16x16.size (inbT k)) (fun _ => rfl)).squeeze S2x16x16 squeezes_S1x2x16x16_S2x16x16

/-- The elements of slot `k`. -/
def oSet (k : Fin 4) : Finset S4x16x1024.Idx := Finset.univ.filter fun x => (x 0).val = k.val
def sSet (k : Fin 4) : Finset S4x2x16x16.Idx := Finset.univ.filter fun x => (x 0).val = k.val

theorem oSlot_emb0 (k : Fin 4) (x : S16x1024.Idx) : ((oSlot k).view.emb x 0).val = k.val := by
  show ((Rect.unit (s := S4x16x1024) ![k.val, 0, 0] S1x16x1024.size (inbO k)).emb (Shape.reshapeEquiv _ x) (0 : Fin 3)).val = k.val
  erw [Shape.reshapeEquiv_cons_one]
  rw [Rect.emb_apply]
  show k.val + 1 * 0 = k.val
  omega
theorem oSlot_emb1 (k : Fin 4) (x : S16x1024.Idx) : ((oSlot k).view.emb x 1).val = (x 0).val := by
  show ((Rect.unit (s := S4x16x1024) ![k.val, 0, 0] S1x16x1024.size (inbO k)).emb (Shape.reshapeEquiv _ x) (1 : Fin 3)).val = (x 0).val
  erw [Shape.reshapeEquiv_cons_one]
  rw [Rect.emb_apply]
  show 0 + 1 * (x 0).val = (x 0).val
  omega
theorem oSlot_emb2 (k : Fin 4) (x : S16x1024.Idx) : ((oSlot k).view.emb x 2).val = (x 1).val := by
  show ((Rect.unit (s := S4x16x1024) ![k.val, 0, 0] S1x16x1024.size (inbO k)).emb (Shape.reshapeEquiv _ x) (2 : Fin 3)).val = (x 1).val
  erw [Shape.reshapeEquiv_cons_one]
  rw [Rect.emb_apply]
  show 0 + 1 * (x 1).val = (x 1).val
  omega
theorem sSlot_emb0 (k : Fin 4) (x : S2x16x16.Idx) : ((sSlot k).view.emb x 0).val = k.val := by
  show ((Rect.unit (s := S4x2x16x16) ![k.val, 0, 0, 0] S1x2x16x16.size (inbT k)).emb (Shape.reshapeEquiv _ x) (0 : Fin 4)).val = k.val
  erw [Shape.reshapeEquiv_cons_one]
  rw [Rect.emb_apply]
  show k.val + 1 * 0 = k.val
  omega
theorem sSlot_embS (k : Fin 4) (x : S2x16x16.Idx) (a : Fin 3) : ((sSlot k).view.emb x a.succ).val = (x a).val := by
  show ((Rect.unit (s := S4x2x16x16) ![k.val, 0, 0, 0] S1x2x16x16.size (inbT k)).emb (Shape.reshapeEquiv _ x) a.succ).val = (x a).val
  erw [Shape.reshapeEquiv_cons_one]
  rw [Rect.emb_apply]
  fin_cases a
  · show 0 + 1 * (x 0).val = (x 0).val; omega
  · show 0 + 1 * (x 1).val = (x 1).val; omega
  · show 0 + 1 * (x 2).val = (x 2).val; omega

theorem oSlot_set (k : Fin 4) : (oSlot k).view.set = oSet k := by
  ext x
  unfold oSet
  rw [Finset.mem_filter]
  constructor
  · intro h
    obtain ⟨y, -, rfl⟩ := Finset.mem_map.mp h
    exact ⟨Finset.mem_univ _, oSlot_emb0 k y⟩
  · rintro ⟨-, h⟩
    refine Finset.mem_map.mpr ⟨fun a => match a with | ⟨0, _⟩ => x 1 | ⟨1, _⟩ => x 2, Finset.mem_univ _, ?_⟩
    funext a
    refine Fin.ext ?_
    fin_cases a
    · exact (oSlot_emb0 k _).trans h.symm
    · exact oSlot_emb1 k _
    · exact oSlot_emb2 k _
theorem sSlot_set (k : Fin 4) : (sSlot k).view.set = sSet k := by
  ext x
  unfold sSet
  rw [Finset.mem_filter]
  constructor
  · intro h
    obtain ⟨y, -, rfl⟩ := Finset.mem_map.mp h
    exact ⟨Finset.mem_univ _, sSlot_emb0 k y⟩
  · rintro ⟨-, h⟩
    refine Finset.mem_map.mpr ⟨fun a => match a with | ⟨0, _⟩ => x 1 | ⟨1, _⟩ => x 2 | ⟨2, _⟩ => x 3, Finset.mem_univ _, ?_⟩
    funext a
    refine Fin.ext ?_
    fin_cases a
    · exact (sSlot_emb0 k _).trans h.symm
    · exact sSlot_embS k _ 0
    · exact sSlot_embS k _ 1
    · exact sSlot_embS k _ 2

theorem oSet_disjoint : ∀ k ∈ (Finset.univ : Finset (Fin 4)), ∀ k' ∈ (Finset.univ : Finset (Fin 4)), k ≠ k' → Disjoint (oSet k) (oSet k') := by
  intro k _ k' _ h
  refine Finset.disjoint_left.mpr fun x hx hx' => h (Fin.ext ?_)
  exact ((Finset.mem_filter.mp hx).2).symm.trans (Finset.mem_filter.mp hx').2
theorem sSet_disjoint : ∀ k ∈ (Finset.univ : Finset (Fin 4)), ∀ k' ∈ (Finset.univ : Finset (Fin 4)), k ≠ k' → Disjoint (sSet k) (sSet k') := by
  intro k _ k' _ h
  refine Finset.disjoint_left.mpr fun x hx hx' => h (Fin.ext ?_)
  exact ((Finset.mem_filter.mp hx).2).symm.trans (Finset.mem_filter.mp hx').2
theorem oSet_cover : (Finset.univ : Finset (Fin 4)).biUnion oSet = Finset.univ := by
  ext x
  simp only [Finset.mem_biUnion, Finset.mem_univ, true_and, iff_true]
  exact ⟨x 0, Finset.mem_filter.mpr ⟨Finset.mem_univ _, rfl⟩⟩
theorem sSet_cover : (Finset.univ : Finset (Fin 4)).biUnion sSet = Finset.univ := by
  ext x
  simp only [Finset.mem_biUnion, Finset.mem_univ, true_and, iff_true]
  exact ⟨x 0, Finset.mem_filter.mpr ⟨Finset.mem_univ _, rfl⟩⟩

/-! ## The cells -/

/-- The semaphores of the exchange on one device: the barrier (`none`), or transfer `k`'s
    (received? / of the statistics? / which). -/
abbrev Cell : Type := Option (Bool × Bool × Fin 3)

/-- The barrier semaphore of the kernel's collective. -/
abbrev barS : Sem sig := (SemArray.scalar (sig.barrier 0 rfl) : Sems sig S_).sem

abbrev semOf (a : DmaSems sig S3) (k : Fin 3) : DmaSem sig :=
  ((a.slice (Rect.unit (s := S3) ![k.val] S1.size (inbK k))).squeeze S_ squeezes_S1_S_).sem

abbrev semArr : Bool → Bool → DmaSems sig S3
  | false, false => cc0_scratch2
  | true, false => cc0_scratch3
  | false, true => cc0_scratch4
  | true, true => cc0_scratch5

abbrev csem : Cell → SemLoc sig
  | none => .reg barS
  | some (r, b, k) => .dma (semOf (semArr r b) k)

abbrev kcell (ck : Dev nD × Cell) : GSem nD τ sig := ((ck.1 : Thread nD τ), csem ck.2)

def allCells : List Cell :=
  [none, some (false, false, 0), some (false, false, 1), some (false, false, 2), some (true, false, 0), some (true, false, 1), some (true, false, 2),
    some (false, true, 0), some (false, true, 1), some (false, true, 2), some (true, true, 0), some (true, true, 1), some (true, true, 2)]

/-- Which cell of the exchange a semaphore is, if any. -/
def cellIdx (sm : SemLoc sig) : Option Cell := allCells.find? fun k => decide (csem k = sm)

theorem cellIdx_csem : ∀ k : Cell, cellIdx (csem k) = some k := by decide +kernel

theorem csem_injective : Function.Injective csem := fun a b h => by
  have := cellIdx_csem a
  rw [h, cellIdx_csem] at this
  exact (Option.some.inj this).symm

theorem kcell_injective : Function.Injective (kcell : Dev nD × Cell → GSem nD τ sig) := by
  rintro ⟨c, k⟩ ⟨c', k'⟩ h
  have h1 : c = c' := congrArg (fun g : GSem nD τ sig => g.1.1) h
  have h2 : csem k = csem k' := congrArg Prod.snd h
  rw [h1, csem_injective h2]

/-- The credits of one transfer: of a slot of the numerators, of a slot of the statistics. -/
def credits : Bool → ℕ
  | false => (oSlot 0).view.dmaCredit
  | true => (sSlot 0).view.dmaCredit

theorem credits_pos : ∀ b, 0 < credits b
  | false => View.dmaCredit_pos _ (by decide)
  | true => View.dmaCredit_pos _ (by decide)

end Cert.Flash

end
-- ==== Proof.Contents.lean ====
/-
What the exchange buffers and the result hold: the rows a device computes point by point, the whole buffers once the
group has exchanged, and the result combined from them.
-/
module

public import proofs.«01_k».proof.Proof.Ring

@[expose] public section

noncomputable section

namespace Cert.Flash

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

variable (m : (ℓ : Loc nD τ sig) → Buf (Elt F) ℓ)

/-! ## The grid's points -/

/-- Point number `n`. -/
abbrev pt (n : Fin 16) : Fin cfg0.N := ⟨n.val, by have h := n.isLt; have e := N_0; show _ < grid0.N; omega⟩

theorem coords_val : ∀ t : Fin grid0.N, (grid0.coords t 0).val = t.val := by decide +kernel
theorem coords_pt (n : Fin 16) : (grid0.coords (pt n) 0).val = n.val := coords_val (pt n)
theorem pt_lt (t : Fin cfg0.N) : t.val < 16 := by have h := t.isLt; have e := N_0; have : t.val < grid0.N := h; omega
theorem cond_last : ∀ t : Fin grid0.N, k0_cond1 (grid0.coords t) = 1#1 ↔ t.val = 15 := by decide +kernel

/-! ## What a device computes at a point -/

abbrev rQ (t : Fin cfg0.N) : Rect S16x1x16x64 := Rect.unit (s := S16x1x16x64) (k0_off1 (grid0.coords t)) S1x1x16x64.size (k0_off1_inb (grid0.coords t))
abbrev rKV : Rect S1x1024x16x64 := Rect.unit (s := S1x1024x16x64) ![0, 0, 0, 0] S1x1024x16x64.size inb_S1x1024x16x64_S1x1024x16x64_0_0_0_0

/-- The query block, the keys and the values the body loads at point `t`. -/
def qAt (c : Dev nD) (t : Fin cfg0.N) : Vec F S1x1x16x64 .bf16 := View.ld (iblk m c 0 t : S16x1x16x64.Idx → Elt F .bf16) (rQ t)
def kAt (c : Dev nD) (t : Fin cfg0.N) : Vec F S1x1024x16x64 .bf16 := View.ld (iblk m c 1 t : S1x1024x16x64.Idx → Elt F .bf16) rKV
def vAt (c : Dev nD) (t : Fin cfg0.N) : Vec F S1x1024x16x64 .bf16 := View.ld (iblk m c 2 t : S1x1024x16x64.Idx → Elt F .bf16) rKV

abbrev rows : IVec S16x1024 32 := iota .tc S16x1024 32 [0] iota_S16x1024_d0_w32

/-- The partial numerators, maxima and normalizers of device `c` at point `t`. -/
def numAt (c : Dev nD) (t : Fin cfg0.N) : FVec F S1x1x1024 .f32 :=
  k0_pay14 (k0_pay4 (kAt m c t)) (k0_pay5 (vAt m c t)) (k0_pay6 (qAt m c t)) rows k0_pay7 k0_pay8 k0_pay9
def maxAt (c : Dev nD) (t : Fin cfg0.N) : FVec F S1x1x1x16 .f32 := k0_pay15 (k0_pay4 (kAt m c t)) (k0_pay6 (qAt m c t))
def sumAt (c : Dev nD) (t : Fin cfg0.N) : FVec F S1x1x1x16 .f32 := k0_pay16 (k0_pay4 (kAt m c t)) (k0_pay6 (qAt m c t))

/-! ## The exchange buffers, filled -/

set_option backward.proofsInPublic true in
/-- The only index of a one-row block at column `j`. -/
def col (j : Fin 1024) : S1x1x1024.Idx := fun a => match a with | ⟨0, _⟩ => ⟨0, Nat.one_pos⟩ | ⟨1, _⟩ => ⟨0, Nat.one_pos⟩ | ⟨2, _⟩ => j
set_option backward.proofsInPublic true in
def lane (j : Fin 16) : S1x1x1x16.Idx := fun a => match a with | ⟨0, _⟩ => ⟨0, Nat.one_pos⟩ | ⟨1, _⟩ => ⟨0, Nat.one_pos⟩ | ⟨2, _⟩ => ⟨0, Nat.one_pos⟩ | ⟨3, _⟩ => j

/-- Slot `k`, row `i` of device `c`'s numerators: point `i` of the device `k` places further. -/
def oAll (c : Dev nD) : Buf (Elt F) ((c : Thread nD τ).loc cc0_scratch0) :=
  fun x : S4x16x1024.Idx => numAt m (mate (x 0) c) (pt (x 1)) (col (x 2))
def sAll (c : Dev nD) : Buf (Elt F) ((c : Thread nD τ).loc cc0_scratch1) :=
  fun x : S4x2x16x16.Idx => if (x 1).val = 0 then maxAt m (mate (x 0) c) (pt (x 2)) (lane (x 3)) else sumAt m (mate (x 0) c) (pt (x 2)) (lane (x 3))

/-- Rows below `n` of a device's own slot hold what it computed there. -/
def FilledO (c : Dev nD) (n : ℕ) (f : Buf (Elt F) ((c : Thread nD τ).loc cc0_scratch0)) : Prop :=
  ∀ x : S4x16x1024.Idx, (x 0).val = 0 → (x 1).val < n → f x = oAll m c x
def FilledS (c : Dev nD) (n : ℕ) (f : Buf (Elt F) ((c : Thread nD τ).loc cc0_scratch1)) : Prop :=
  ∀ x : S4x2x16x16.Idx, (x 0).val = 0 → (x 2).val < n → f x = sAll m c x

abbrev rO (t : Fin cfg0.N) : Rect S4x16x1024 := Rect.unit (s := S4x16x1024) (k0_off2 (grid0.coords t)) S1x1x1024.size (k0_off2_inb (grid0.coords t))
abbrev rM (t : Fin cfg0.N) : Rect S4x2x16x16 := Rect.unit (s := S4x2x16x16) (k0_off3 (grid0.coords t)) S1x1x1x16.size (k0_off3_inb (grid0.coords t))
abbrev rL (t : Fin cfg0.N) : Rect S4x2x16x16 := Rect.unit (s := S4x2x16x16) (k0_off4 (grid0.coords t)) S1x1x1x16.size (k0_off4_inb (grid0.coords t))

theorem mate_of_zero {k : Fin 4} (h : k.val = 0) (c : Dev nD) : mate k c = c := by
  rw [show k = 0 from Fin.ext h, mate_zero]

section Access
variable {Val : EltTy → Type}

/-- A store of a whole rectangle: the payload on it, the old contents off it. -/
theorem write_idx (b : Ref sig .tc) (r : Rect b.ty.shape) (f : b.ty.Contents Val) (w : r.shape.Idx → Val b.ty.elt) (y : r.shape.Idx) :
    ((Memref.whole b).access r : View sig .tc _ _ _).write Val f w Finset.univ (r.emb y) = w y :=
  View.write_emb_of_mem (v := (Memref.whole b).access r) f w (Finset.mem_univ y)
theorem write_off (b : Ref sig .tc) (r : Rect b.ty.shape) (f : b.ty.Contents Val) (w : r.shape.Idx → Val b.ty.elt) (x : b.ty.shape.Idx)
    (h : ∀ y, r.emb y ≠ x) : ((Memref.whole b).access r : View sig .tc _ _ _).write Val f w Finset.univ x = f x :=
  View.write_of_not_mem (v := (Memref.whole b).access r) f w Finset.univ (by
    intro hx
    obtain ⟨y, -, e⟩ := Finset.mem_map.mp hx
    exact h y e)
end Access

theorem rO_emb (t : Fin cfg0.N) (y : S1x1x1024.Idx) :
    ((rO t).emb y (0 : Fin 3)).val = 0 ∧ ((rO t).emb y (1 : Fin 3)).val = t.val ∧ ((rO t).emb y (2 : Fin 3)).val = (y 2).val := by
  have e := k0_off2_eq (grid0.coords t)
  have ht := coords_val t
  have y0 : (y 0).val < 1 := (y 0).isLt
  have y1 : (y 1).val < 1 := (y 1).isLt
  have h : ∀ a : Fin 3, ((rO t).emb y a).val = k0_off2 (grid0.coords t) a + 1 * (y a).val := fun a => rfl
  rw [h, h, h, e]
  refine ⟨?_, ?_, ?_⟩
  · show 0 + 1 * (y 0).val = 0; omega
  · show (grid0.coords t 0).val + 1 * (y 1).val = t.val; omega
  · show 0 + 1 * (y 2).val = (y 2).val; omega
theorem rM_emb (t : Fin cfg0.N) (y : S1x1x1x16.Idx) :
    ((rM t).emb y (0 : Fin 4)).val = 0 ∧ ((rM t).emb y (1 : Fin 4)).val = 0 ∧ ((rM t).emb y (2 : Fin 4)).val = t.val ∧ ((rM t).emb y (3 : Fin 4)).val = (y 3).val := by
  have e := k0_off3_eq (grid0.coords t)
  have ht := coords_val t
  have y0 : (y 0).val < 1 := (y 0).isLt
  have y1 : (y 1).val < 1 := (y 1).isLt
  have y2 : (y 2).val < 1 := (y 2).isLt
  have h : ∀ a : Fin 4, ((rM t).emb y a).val = k0_off3 (grid0.coords t) a + 1 * (y a).val := fun a => rfl
  rw [h, h, h, h, e]
  refine ⟨?_, ?_, ?_, ?_⟩
  · show 0 + 1 * (y 0).val = 0; omega
  · show 0 + 1 * (y 1).val = 0; omega
  · show (grid0.coords t 0).val + 1 * (y 2).val = t.val; omega
  · show 0 + 1 * (y 3).val = (y 3).val; omega
theorem rL_emb (t : Fin cfg0.N) (y : S1x1x1x16.Idx) :
    ((rL t).emb y (0 : Fin 4)).val = 0 ∧ ((rL t).emb y (1 : Fin 4)).val = 1 ∧ ((rL t).emb y (2 : Fin 4)).val = t.val ∧ ((rL t).emb y (3 : Fin 4)).val = (y 3).val := by
  have e := k0_off4_eq (grid0.coords t)
  have ht := coords_val t
  have y0 : (y 0).val < 1 := (y 0).isLt
  have y1 : (y 1).val < 1 := (y 1).isLt
  have y2 : (y 2).val < 1 := (y 2).isLt
  have h : ∀ a : Fin 4, ((rL t).emb y a).val = k0_off4 (grid0.coords t) a + 1 * (y a).val := fun a => rfl
  rw [h, h, h, h, e]
  refine ⟨?_, ?_, ?_, ?_⟩
  · show 0 + 1 * (y 0).val = 0; omega
  · show 1 + 1 * (y 1).val = 1; omega
  · show (grid0.coords t 0).val + 1 * (y 2).val = t.val; omega
  · show 0 + 1 * (y 3).val = (y 3).val; omega

theorem filledO_step (c : Dev nD) (t : Fin cfg0.N) (f : Buf (Elt F) ((c : Thread nD τ).loc cc0_scratch0)) (h : FilledO m c t.val f) :
    FilledO m c (t.val + 1) ((oM.access (rO t) : View sig .tc _ _ _).write (Elt F) f (numAt m c t) Finset.univ) := by
  intro x h0 h1
  by_cases hx : (x 1).val = t.val
  · have e : (rO t).emb (col (x 2)) = x := by
      obtain ⟨e0, e1, e2⟩ := rO_emb t (col (x 2))
      funext a
      refine Fin.ext ?_
      fin_cases a
      · exact e0.trans h0.symm
      · exact e1.trans hx.symm
      · exact e2
    have hw := write_idx (Val := Elt F) cc0_scratch0 (rO t) f (numAt m c t) (col (x 2))
    rw [e] at hw
    refine hw.trans ?_
    unfold oAll
    rw [mate_of_zero h0, show pt (x 1) = t from Fin.ext hx]
  · rw [show (oM.access (rO t) : View sig .tc _ _ _).write (Elt F) f (numAt m c t) Finset.univ x = f x from
      write_off (Val := Elt F) cc0_scratch0 (rO t) f (numAt m c t) x (fun y e => hx (by rw [← e]; exact (rO_emb t y).2.1))]
    exact h x h0 (by omega)

theorem filledS_step (c : Dev nD) (t : Fin cfg0.N) (f : Buf (Elt F) ((c : Thread nD τ).loc cc0_scratch1)) (h : FilledS m c t.val f) :
    FilledS m c (t.val + 1) ((sM.access (rL t) : View sig .tc _ _ _).write (Elt F)
      ((sM.access (rM t) : View sig .tc _ _ _).write (Elt F) f (maxAt m c t) Finset.univ) (sumAt m c t) Finset.univ) := by
  intro x h0 h1
  have x1 : (x 1).val < 2 := (x 1).isLt
  by_cases hx : (x 2).val = t.val
  · by_cases hk : (x 1).val = 0
    · rw [show (sM.access (rL t) : View sig .tc _ _ _).write (Elt F)
          ((sM.access (rM t) : View sig .tc _ _ _).write (Elt F) f (maxAt m c t) Finset.univ) (sumAt m c t) Finset.univ x = _ from
        write_off (Val := Elt F) cc0_scratch1 (rL t) _ (sumAt m c t) x (fun y e => by
          have := (rL_emb t y).2.1; rw [e] at this; omega)]
      have e : (rM t).emb (lane (x 3)) = x := by
        obtain ⟨e0, e1, e2, e3⟩ := rM_emb t (lane (x 3))
        funext a
        refine Fin.ext ?_
        fin_cases a
        · exact e0.trans h0.symm
        · exact e1.trans hk.symm
        · exact e2.trans hx.symm
        · exact e3
      have hw := write_idx (Val := Elt F) cc0_scratch1 (rM t) f (maxAt m c t) (lane (x 3))
      rw [e] at hw
      refine hw.trans ?_
      unfold sAll
      rw [if_pos hk, mate_of_zero h0, show pt (x 2) = t from Fin.ext hx]
    · have e : (rL t).emb (lane (x 3)) = x := by
        obtain ⟨e0, e1, e2, e3⟩ := rL_emb t (lane (x 3))
        funext a
        refine Fin.ext ?_
        fin_cases a
        · exact e0.trans h0.symm
        · exact e1.trans (by show 1 = (x 1).val; omega)
        · exact e2.trans hx.symm
        · exact e3
      have hw := write_idx (Val := Elt F) cc0_scratch1 (rL t)
        ((sM.access (rM t) : View sig .tc _ _ _).write (Elt F) f (maxAt m c t) Finset.univ) (sumAt m c t) (lane (x 3))
      rw [e] at hw
      refine hw.trans ?_
      unfold sAll
      rw [if_neg hk, mate_of_zero h0, show pt (x 2) = t from Fin.ext hx]
  · rw [show (sM.access (rL t) : View sig .tc _ _ _).write (Elt F)
          ((sM.access (rM t) : View sig .tc _ _ _).write (Elt F) f (maxAt m c t) Finset.univ) (sumAt m c t) Finset.univ x = _ from
        write_off (Val := Elt F) cc0_scratch1 (rL t) _ (sumAt m c t) x (fun y e => hx (by rw [← e]; exact (rL_emb t y).2.2.1)),
      show (sM.access (rM t) : View sig .tc _ _ _).write (Elt F) f (maxAt m c t) Finset.univ x = f x from
        write_off (Val := Elt F) cc0_scratch1 (rM t) f (maxAt m c t) x (fun y e => hx (by rw [← e]; exact (rM_emb t y).2.2.1))]
    exact h x h0 (by omega)

/-! ## What a transfer lands -/

/-- The place of transfer `j`'s landing slot: the sender is `j + 1` places before, so the partner finds it `3 - j` places further. -/
theorem mate_land (j : Fin 3) (c : Dev nD) : mate j.rev.succ (partner j c) = c := partner_rev j c

theorem landedO (c : Dev nD) (j : Fin 3) (fd : Buf (Elt F) ((partner j c : Thread nD τ).loc cc0_scratch0)) (x : S4x16x1024.Idx) (hx : x ∈ oSet j.rev.succ) :
    (oSlot j.rev.succ).view.write (Elt F) fd ((oSlot 0).view.read (Elt F) (oAll m c)) Finset.univ x = oAll m (partner j c) x := by
  rw [← oSlot_set] at hx
  obtain ⟨y, -, rfl⟩ := Finset.mem_map.mp hx
  refine (View.write_emb_of_mem (v := (oSlot j.rev.succ).view) fd ((oSlot 0).view.read (Elt F) (oAll m c)) (Finset.mem_univ y)).trans ?_
  show oAll m c ((oSlot 0).view.emb y) = _
  unfold oAll
  rw [mate_of_zero (oSlot_emb0 0 y), show (oSlot j.rev.succ).view.emb y 0 = j.rev.succ from Fin.ext (oSlot_emb0 _ y), mate_land,
    show (oSlot 0).view.emb y 1 = (oSlot j.rev.succ).view.emb y 1 from Fin.ext ((oSlot_emb1 _ y).trans (oSlot_emb1 _ y).symm),
    show (oSlot 0).view.emb y 2 = (oSlot j.rev.succ).view.emb y 2 from Fin.ext ((oSlot_emb2 _ y).trans (oSlot_emb2 _ y).symm)]

theorem landedS (c : Dev nD) (j : Fin 3) (fd : Buf (Elt F) ((partner j c : Thread nD τ).loc cc0_scratch1)) (x : S4x2x16x16.Idx) (hx : x ∈ sSet j.rev.succ) :
    (sSlot j.rev.succ).view.write (Elt F) fd ((sSlot 0).view.read (Elt F) (sAll m c)) Finset.univ x = sAll m (partner j c) x := by
  rw [← sSlot_set] at hx
  obtain ⟨y, -, rfl⟩ := Finset.mem_map.mp hx
  refine (View.write_emb_of_mem (v := (sSlot j.rev.succ).view) fd ((sSlot 0).view.read (Elt F) (sAll m c)) (Finset.mem_univ y)).trans ?_
  show sAll m c ((sSlot 0).view.emb y) = _
  unfold sAll
  rw [mate_of_zero (sSlot_emb0 0 y), show (sSlot j.rev.succ).view.emb y 0 = j.rev.succ from Fin.ext (sSlot_emb0 _ y), mate_land,
    show (sSlot 0).view.emb y 1 = (sSlot j.rev.succ).view.emb y 1 from Fin.ext ((sSlot_embS _ y 0).trans (sSlot_embS _ y 0).symm),
    show (sSlot 0).view.emb y 2 = (sSlot j.rev.succ).view.emb y 2 from Fin.ext ((sSlot_embS _ y 1).trans (sSlot_embS _ y 1).symm),
    show (sSlot 0).view.emb y 3 = (sSlot j.rev.succ).view.emb y 3 from Fin.ext ((sSlot_embS _ y 2).trans (sSlot_embS _ y 2).symm)]

/-! ## The result -/

abbrev rM4 : Rect S4x2x16x16 := Rect.unit (s := S4x2x16x16) ![0, 0, 0, 0] S4x1x16x16.size inb_S4x2x16x16_S4x1x16x16_0_0_0_0
abbrev rL4 : Rect S4x2x16x16 := Rect.unit (s := S4x2x16x16) ![0, 1, 0, 0] S4x1x16x16.size inb_S4x2x16x16_S4x1x16x16_0_1_0_0
abbrev rO4 : Rect S4x16x1024 := Rect.unit (s := S4x16x1024) ![0, 0, 0] S4x16x1024.size inb_S4x16x1024_S4x16x1024_0_0_0
abbrev rRes : Rect S16x1x16x64 := Rect.unit (s := S16x1x16x64) ![0, 0, 0, 0] S16x1x16x64.size inb_S16x1x16x64_S16x1x16x64_0_0_0_0

/-- The group's maxima, normalizers and numerators as the last point reads them. -/
def maxes (c : Dev nD) : Vec F S4x1x16x16 .f32 := View.ld (sAll m c : S4x2x16x16.Idx → Elt F .f32) rM4
def sums (c : Dev nD) : Vec F S4x1x16x16 .f32 := View.ld (sAll m c : S4x2x16x16.Idx → Elt F .f32) rL4
def nums (c : Dev nD) : Vec F S4x16x1024 .f32 := View.ld (oAll m c : S4x16x1024.Idx → Elt F .f32) rO4

/-- The expansion of a head's column to its lanes. -/
abbrev expander : FVec F S16x1024 .f32 := k0_pay10 rows k0_pay7 k0_pay8 k0_pay9

/-- The kernel's result on device `c`. -/
def outAt (c : Dev nD) : FVec F S16x1x16x64 .f32 :=
  k0_pay17 (k0_pay2 expander (maxes m c) (sums m c)) (k0_pay3 expander (maxes m c) (nums m c))

end Cert.Flash

end
-- ==== Proof.Schedule.lean ====
/-
The protocol of the exchange: which duties each semaphore cell has, what every duty hands over, what a device owes at
launch, and the order of the waits.

A device's barrier cell has three duties of one unit, duty `j` paid by the device whose partner `j` it is; that device
hands over its own slots `j + 1` of both buffers, which is where the announced device's transfer back lands. A receive
cell has one duty, paid by the sender's transfer, that hands over the slot with the sender's rows in it; a send cell
has one duty, paid by the device's own transfer, that hands back the share of slot 0 the transfer read.
-/
module

public import proofs.«01_k».proof.Proof.Contents

@[expose] public section

noncomputable section

namespace Cert.Flash

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-! ## The resource algebra -/

/-- A duty's name: which of the three partners. -/
abbrev Duty : Type := Fin 3
abbrev UX : Type := URounds (GSem nD τ sig) Duty
abbrev UU : Type := UR sig nD τ × UX

local notation "𝕄" => MT nD τ sig Unit (Elt F) ℕ UU ℕ

abbrev EP : Emb (UR sig nD τ) (MT nD τ sig Unit (Elt F) ℕ UU ℕ) := embL
abbrev EX : Emb UX (MT nD τ sig Unit (Elt F) ℕ UU ℕ) := embR

variable (m : (ℓ : Loc nD τ sig) → Buf (Elt F) ℓ)

/-! ## Slots held -/

def oPts (c : Dev nD) (k : Fin 4) (q : PosShare TreeShare) (f : Buf (Elt F) ((c : Thread nD τ).loc cc0_scratch0)) : sProp 𝕄 :=
  ((c : Thread nD τ).loc cc0_scratch0) ↦[(oSet k : Finset (Idx ((c : Thread nD τ).loc cc0_scratch0)))]{q} f
def sPts (c : Dev nD) (k : Fin 4) (q : PosShare TreeShare) (f : Buf (Elt F) ((c : Thread nD τ).loc cc0_scratch1)) : sProp 𝕄 :=
  ((c : Thread nD τ).loc cc0_scratch1) ↦[(sSet k : Finset (Idx ((c : Thread nD τ).loc cc0_scratch1)))]{q} f

omit [FloatOps F] in
theorem oPts_view (c : Dev nD) (k : Fin 4) (q : PosShare TreeShare) (f : Buf (Elt F) ((c : Thread nD τ).loc cc0_scratch0)) :
    (oPts c k q f : sProp 𝕄) = ((oSlot k).view.loc (c : Thread nD τ) ↦[(oSlot k).view.set]{q} f) := by
  unfold oPts; rw [oSlot_set]
omit [FloatOps F] in
theorem sPts_view (c : Dev nD) (k : Fin 4) (q : PosShare TreeShare) (f : Buf (Elt F) ((c : Thread nD τ).loc cc0_scratch1)) :
    (sPts c k q f : sProp 𝕄) = ((sSlot k).view.loc (c : Thread nD τ) ↦[(sSlot k).view.set]{q} f) := by
  unfold sPts; rw [sSlot_set]

omit [FloatOps F] in
theorem oPts_congr (c : Dev nD) (k : Fin 4) (q : PosShare TreeShare) {f g : Buf (Elt F) ((c : Thread nD τ).loc cc0_scratch0)}
    (h : ∀ x ∈ oSet k, f x = g x) : (oPts c k q f : sProp 𝕄) = oPts c k q g := pointsTo_congr h
omit [FloatOps F] in
theorem sPts_congr (c : Dev nD) (k : Fin 4) (q : PosShare TreeShare) {f g : Buf (Elt F) ((c : Thread nD τ).loc cc0_scratch1)}
    (h : ∀ x ∈ sSet k, f x = g x) : (sPts c k q f : sProp 𝕄) = sPts c k q g := pointsTo_congr h

omit [FloatOps F] in
instance oPts_storable (c : Dev nD) (k : Fin 4) (q : PosShare TreeShare) (f) : BI.Storable (upEmb : UEmb _ 𝕄) (oPts (F := F) c k q f) := by
  unfold oPts; infer_instance
omit [FloatOps F] in
instance sPts_storable (c : Dev nD) (k : Fin 4) (q : PosShare TreeShare) (f) : BI.Storable (upEmb : UEmb _ 𝕄) (sPts (F := F) c k q f) := by
  unfold sPts; infer_instance

omit [FloatOps F] in
theorem bigSep_fin3 (Φ : Fin 3 → sProp 𝕄) : bigSep Finset.univ Φ = iprop(Φ 0 ∗ Φ 1 ∗ Φ 2) :=
  bigSep_univ_eq_bigSepL [0, 1, 2] (by decide) (by decide) Φ
omit [FloatOps F] in
theorem bigSep_fin4 (Φ : Fin 4 → sProp 𝕄) : bigSep Finset.univ Φ = iprop(Φ 0 ∗ Φ 1 ∗ Φ 2 ∗ Φ 3) :=
  bigSep_univ_eq_bigSepL [0, 1, 2, 3] (by decide) (by decide) Φ

omit [FloatOps F] in
/-- A whole buffer is its four slots. -/
theorem oPts_whole (c : Dev nD) (f : Buf (Elt F) ((c : Thread nD τ).loc cc0_scratch0)) :
    (((c : Thread nD τ).loc cc0_scratch0) ↦{fullShare} f : sProp 𝕄)
      = iprop(oPts c 0 fullShare f ∗ oPts c 1 fullShare f ∗ oPts c 2 fullShare f ∗ oPts c 3 fullShare f) := by
  rw [← bigSep_fin4 (fun k => oPts c k fullShare f)]
  unfold oPts
  rw [← pointsTo_biUnion (ℓ := (c : Thread nD τ).loc cc0_scratch0) Finset.univ oSet oSet_disjoint, oSet_cover]
omit [FloatOps F] in
theorem sPts_whole (c : Dev nD) (f : Buf (Elt F) ((c : Thread nD τ).loc cc0_scratch1)) :
    (((c : Thread nD τ).loc cc0_scratch1) ↦{fullShare} f : sProp 𝕄)
      = iprop(sPts c 0 fullShare f ∗ sPts c 1 fullShare f ∗ sPts c 2 fullShare f ∗ sPts c 3 fullShare f) := by
  rw [← bigSep_fin4 (fun k => sPts c k fullShare f)]
  unfold sPts
  rw [← pointsTo_biUnion (ℓ := (c : Thread nD τ).loc cc0_scratch1) Finset.univ sSet sSet_disjoint, sSet_cover]

/-- The share of slot 0 that transfer `j` reads. -/
def part : Fin 3 → PosShare TreeShare
  | 0 => (fullShare : PosShare TreeShare).left
  | 1 => (fullShare : PosShare TreeShare).right.left
  | 2 => (fullShare : PosShare TreeShare).right.right

omit [FloatOps F] in
theorem oPts_parts (c : Dev nD) (f : Buf (Elt F) ((c : Thread nD τ).loc cc0_scratch0)) :
    (oPts c 0 fullShare f : sProp 𝕄) ⊣⊢ iprop(oPts c 0 (part 0) f ∗ oPts c 0 (part 1) f ∗ oPts c 0 (part 2) f) := by
  unfold oPts part
  constructor
  · iintro H
    ihave H := (pointsTo_share (PosShare.mem_left_op_right (fullShare : PosShare TreeShare))).1 $$ H
    icases H with ⟨H0, H⟩
    ihave H := (pointsTo_share (PosShare.mem_left_op_right (fullShare : PosShare TreeShare).right)).1 $$ H
    icases H with ⟨H1, H2⟩
    isplitl [H0]; · iexact H0
    isplitl [H1] <;> iassumption
  · iintro ⟨H0, H1, H2⟩
    iapply (pointsTo_share (PosShare.mem_left_op_right (fullShare : PosShare TreeShare))).2
    isplitl [H0]; · iexact H0
    iapply (pointsTo_share (PosShare.mem_left_op_right (fullShare : PosShare TreeShare).right)).2
    isplitl [H1] <;> iassumption
omit [FloatOps F] in
theorem sPts_parts (c : Dev nD) (f : Buf (Elt F) ((c : Thread nD τ).loc cc0_scratch1)) :
    (sPts c 0 fullShare f : sProp 𝕄) ⊣⊢ iprop(sPts c 0 (part 0) f ∗ sPts c 0 (part 1) f ∗ sPts c 0 (part 2) f) := by
  unfold sPts part
  constructor
  · iintro H
    ihave H := (pointsTo_share (PosShare.mem_left_op_right (fullShare : PosShare TreeShare))).1 $$ H
    icases H with ⟨H0, H⟩
    ihave H := (pointsTo_share (PosShare.mem_left_op_right (fullShare : PosShare TreeShare).right)).1 $$ H
    icases H with ⟨H1, H2⟩
    isplitl [H0]; · iexact H0
    isplitl [H1] <;> iassumption
  · iintro ⟨H0, H1, H2⟩
    iapply (pointsTo_share (PosShare.mem_left_op_right (fullShare : PosShare TreeShare))).2
    isplitl [H0]; · iexact H0
    iapply (pointsTo_share (PosShare.mem_left_op_right (fullShare : PosShare TreeShare).right)).2
    isplitl [H1] <;> iassumption

/-! ## The schedule -/

/-- What a duty of a device's cell hands that device. -/
def payAt (c : Dev nD) : Cell → Duty → sProp 𝕄
  | none, d => iprop((∃ f, oPts (partner d.rev c) d.succ fullShare f) ∗ (∃ f, sPts (partner d.rev c) d.succ fullShare f))
  | some (false, false, k), _ => oPts c 0 (part k) (oAll m c)
  | some (false, true, k), _ => sPts c 0 (part k) (sAll m c)
  | some (true, false, k), _ => oPts c k.succ fullShare (oAll m c)
  | some (true, true, k), _ => sPts c k.succ fullShare (sAll m c)

instance payAt_storable (c : Dev nD) : ∀ (k : Cell) (d : Duty), BI.Storable (upEmb : UEmb _ 𝕄) (payAt m c k d)
  | none, d => by unfold payAt; infer_instance
  | some (false, false, k), _ => by unfold payAt; infer_instance
  | some (false, true, k), _ => by unfold payAt; infer_instance
  | some (true, false, k), _ => by unfold payAt; infer_instance
  | some (true, true, k), _ => by unfold payAt; infer_instance

def dutiesAt : Cell → Finset Duty
  | none => Finset.univ
  | some _ => {0}
def unitsAt : Cell → ℕ
  | none => 1
  | some (_, b, _) => credits b
def expectAt : Cell → ℕ
  | none => 3
  | some (_, b, _) => credits b

theorem unitsAt_pos : ∀ k, 0 < unitsAt k
  | none => Nat.one_pos
  | some (_, b, _) => credits_pos b

def sched : Rounds.Schedule (GSem nD τ sig) Duty 𝕄 where
  duties g r := if r = 0 ∧ g.1.2 = .tc then (cellIdx g.2).elim ∅ dutiesAt else ∅
  unitless _ := False
  amount g _ _ := (cellIdx g.2).elim 1 unitsAt
  payload g _ d := (cellIdx g.2).elim iprop(emp) fun k => payAt m g.1.1 k d
  amount_pos g _ _ _ := by
    cases cellIdx g.2 with
    | none => exact Nat.one_pos
    | some k => exact unitsAt_pos k

instance sched_storable (g : GSem nD τ sig) (r : ℕ) (d : Duty) : BI.Storable (upEmb : UEmb _ 𝕄) ((sched (F := F) m).payload g r d) := by
  show BI.Storable upEmb ((cellIdx g.2).elim iprop(emp) fun k => payAt m g.1.1 k d)
  cases cellIdx g.2 with
  | none => show BI.Storable upEmb iprop(emp); infer_instance
  | some k => exact payAt_storable m g.1.1 k d

section Sched
variable (c : Dev nD) (k : Cell)

theorem duties_at : (sched (F := F) m).duties (kcell (c, k)) 0 = dutiesAt k := by
  show (if 0 = 0 ∧ (kcell (c, k)).1.2 = .tc then (cellIdx (csem k)).elim ∅ dutiesAt else ∅) = _
  rw [if_pos ⟨rfl, rfl⟩, cellIdx_csem]; rfl
theorem duties_later (g : GSem nD τ sig) : ∀ r, 1 ≤ r → (sched (F := F) m).duties g r = ∅ :=
  fun r hr => if_neg fun h => by omega
theorem amount_at (d : Duty) : (sched (F := F) m).amount (kcell (c, k)) 0 d = unitsAt k := by
  show (cellIdx (csem k)).elim 1 unitsAt = _
  rw [cellIdx_csem]; rfl
theorem payload_at (d : Duty) : (sched (F := F) m).payload (kcell (c, k)) 0 d = payAt m c k d := by
  show ((cellIdx (csem k)).elim iprop(emp) fun k => payAt m c k d) = _
  rw [cellIdx_csem]; rfl
theorem expect_at : (sched (F := F) m).expect (kcell (c, k)) 0 = expectAt k := by
  unfold Schedule.expect Schedule.amountOf
  rw [duties_at, Finset.sum_congr rfl fun d _ => amount_at m c k d]
  match k with
  | none => rfl
  | some (r, b, j) => exact Finset.sum_singleton _ _
theorem rest_at : bigSep ((sched (F := F) m).duties (kcell (c, k)) 0 \ ∅) (fun d => (sched (F := F) m).payload (kcell (c, k)) 0 d)
    = bigSep (dutiesAt k) fun d => payAt m c k d := by
  rw [Finset.sdiff_empty, duties_at]
  exact bigSep_congr fun d _ => payload_at m c k d
theorem rest_one (t : Bool × Bool × Fin 3) :
    bigSep ((sched (F := F) m).duties (kcell (c, some t)) 0 \ ∅) (fun d => (sched (F := F) m).payload (kcell (c, some t)) 0 d) = payAt m c (some t) 0 :=
  (rest_at m c (some t)).trans bigSep_singleton
theorem rest_bar :
    bigSep ((sched (F := F) m).duties (kcell (c, none)) 0 \ ∅) (fun d => (sched (F := F) m).payload (kcell (c, none)) 0 d)
      = iprop(payAt m c none 0 ∗ payAt m c none 1 ∗ payAt m c none 2) :=
  (rest_at m c none).trans (bigSep_fin3 _)

end Sched

/-! ## What a device owes at launch, and the levels -/

/-- Everything device `c` owes, the last due first: the credits of its transfers' landings at its partners, then one
    unit at each partner's barrier. -/
def dues (c : Dev nD) : List (GSem nD τ sig × ℕ) :=
  [(kcell (partner 2 c, some (true, true, 0)), credits true), (kcell (partner 2 c, some (true, false, 0)), credits false),
    (kcell (partner 1 c, some (true, true, 1)), credits true), (kcell (partner 1 c, some (true, false, 1)), credits false),
    (kcell (partner 0 c, some (true, true, 2)), credits true), (kcell (partner 0 c, some (true, false, 2)), credits false),
    (kcell (partner 2 c, none), 1), (kcell (partner 1 c, none), 1), (kcell (partner 0 c, none), 1)]

def owing (l : List (GSem nD τ sig × ℕ)) : CellTallies nD τ sig Unit := l.foldl (fun O e => O + tallyAt e.1 () e.2) 0
/-- What is still owed when the first `n` entries remain. -/
def due (c : Dev nD) (n : ℕ) : CellTallies nD τ sig Unit := owing ((dues c).take n)

abbrev O₀ (c : Dev nD) : CellTallies nD τ sig Unit := due c 9

theorem foldl_pos (l : List (GSem nD τ sig × ℕ)) : ∀ (O : CellTallies nD τ sig Unit) {g : GSem nD τ sig} {u : Unit},
    0 < l.foldl (fun O e => O + tallyAt e.1 () e.2) O g u → 0 < O g u ∨ ∃ e ∈ l, g = e.1 := by
  induction l with
  | nil => exact fun O g u h => Or.inl h
  | cons e l ih =>
    intro O g u h
    rcases ih (O + tallyAt e.1 () e.2) h with h | ⟨e', he', hg⟩
    · rw [Pi.add_apply, Finsupp.add_apply, tallyAt_apply] at h
      by_cases hg : g = e.1
      · exact Or.inr ⟨e, List.mem_cons_self, hg⟩
      · rw [if_neg fun h' => hg h'.1] at h; exact Or.inl h
    · exact Or.inr ⟨e', List.mem_cons_of_mem _ he', hg⟩

theorem due_pos {c : Dev nD} {n : ℕ} {g : GSem nD τ sig} {u : Unit} (h : 0 < due c n g u) : ∃ e ∈ (dues c).take n, g = e.1 := by
  rcases foldl_pos _ 0 h with h | h
  · exact absurd h (Nat.lt_irrefl 0)
  · exact h

def L (g : GSem nD τ sig) : Finset Unit := if g.1.2 = .tc then {()} else ∅
def lvAt : Cell → ℕ
  | none => 1
  | some (true, _, _) => 2
  | some (false, _, _) => 0
/-- Barrier cells at 1, receive cells at 2, everything else at 0. -/
def lv (g : GSem nD τ sig) (_ : Unit) : ℕ := (cellIdx g.2).elim 0 lvAt

theorem L_of_ne (g : GSem nD τ sig) (h : g.1.2 ≠ .tc) : L g = ∅ := if_neg h
theorem L_tc (c : Dev nD) (sm : SemLoc sig) : L ((c : Thread nD τ), sm) = {()} := if_pos rfl
theorem lv_cell (c : Dev nD) (k : Cell) (u : Unit) : lv (kcell (c, k)) u = lvAt k := by
  show (cellIdx (csem k)).elim 0 lvAt = _
  rw [cellIdx_csem]; rfl

omit [FloatOps F] in
/-- A wait at level `a` is safe while everything owed lies above `a`. -/
theorem mayWait_due (c : Dev nD) (n a : ℕ) (sm : SemLoc sig) (hsm : lv ((c : Thread nD τ), sm) () ≤ a)
    (h : ∀ e ∈ (dues c).take n, e.1.1.2 = .tc ∧ a < lv e.1 ()) :
    (levAts L lv : sProp 𝕄) ⊢ MayWait (c : Thread nD τ) sm () (due c n) :=
  MayOwe.of_cut (L := L) (lev := lv) a (fun p hp => by rw [Finset.mem_singleton.mp hp, L_tc]; exact Finset.mem_singleton_self _)
    (fun g u hg => by
      obtain ⟨e, he, rfl⟩ := due_pos hg
      unfold L; rw [if_pos (h e he).1]; exact Finset.mem_singleton_self _)
    (fun p hp => by rw [Finset.mem_singleton.mp hp]; exact hsm)
    (fun g u hg => by
      obtain ⟨e, he, rfl⟩ := due_pos hg
      exact (h e he).2)

theorem dues_level (c : Dev nD) : ∀ e ∈ (dues c).take 9, e.1.1.2 = .tc ∧ 0 < lv e.1 () := by
  intro e he
  have he : e ∈ dues c := List.mem_of_mem_take he
  unfold dues at he
  simp only [List.mem_cons, List.not_mem_nil, or_false] at he
  rcases he with rfl | rfl | rfl | rfl | rfl | rfl | rfl | rfl | rfl <;> exact ⟨rfl, by rw [lv_cell]; decide⟩
theorem dues_recv_level (c : Dev nD) : ∀ e ∈ (dues c).take 6, e.1.1.2 = .tc ∧ 1 < lv e.1 () := by
  intro e he
  simp only [dues, List.take_succ_cons, List.take_zero, List.mem_cons, List.not_mem_nil, or_false] at he
  rcases he with rfl | rfl | rfl | rfl | rfl | rfl <;> exact ⟨rfl, by rw [lv_cell]; decide⟩

omit [FloatOps F] in
theorem mayWait_stage (c : Dev nD) (q : DmaSem sig) (hq : cellIdx (.dma q) = none) (O : CellTallies nD τ sig Unit) (hO : O = O₀ c ∨ O = 0) :
    (levAts L lv : sProp 𝕄) ⊢ MayWait (c : Thread nD τ) (.dma q) () O := by
  rcases hO with rfl | rfl
  · exact mayWait_due c 9 0 _ (by unfold lv; rw [hq]; exact Nat.le_refl 0) (dues_level c)
  · rw [MayWait_zero]; iintro -; iempintro
omit [FloatOps F] in
theorem mayWait_bar (c : Dev nD) : (levAts L lv : sProp 𝕄) ⊢ MayWait (c : Thread nD τ) (csem none) () (due c 6) :=
  mayWait_due c 6 1 _ (Nat.le_of_eq (lv_cell c none ())) (dues_recv_level c)

/-! ## The ghost state a device's body starts from -/

/-- The invariants of every cell of every device, under the names `K`, and that each has reached round 0. -/
def records (K : Dev nD × Cell → ℕ) : sProp 𝕄 :=
  iprop((bigSep Finset.univ fun ck : Dev nD × Cell => cellInv EX (sched m) (K ck) (kcell ck))
    ∗ bigSep Finset.univ fun ck : Dev nD × Cell => reached EX (kcell ck) 0)

instance records_persistent (K : Dev nD × Cell → ℕ) : BI.Persistent (records m K) := by unfold records; infer_instance

theorem inv_mem (K : Dev nD × Cell → ℕ) (ck : Dev nD × Cell) :
    (bigSep Finset.univ fun ck : Dev nD × Cell => (cellInv EX (sched m) (K ck) (kcell ck) : sProp 𝕄)) ⊢ cellInv EX (sched m) (K ck) (kcell ck) :=
  bigSep_elim (Finset.mem_univ ck)
omit [FloatOps F] in
theorem reached_mem (ck : Dev nD × Cell) :
    (bigSep Finset.univ fun ck : Dev nD × Cell => (reached EX (kcell ck) 0 : sProp 𝕄)) ⊢ reached EX (kcell ck) 0 :=
  bigSep_elim (Finset.mem_univ ck)
theorem inv_at (K : Dev nD × Cell → ℕ) (ck : Dev nD × Cell) : records m K ⊢ cellInv EX (sched m) (K ck) (kcell ck) := by
  unfold records
  iintro ⟨H, -⟩
  iapply (inv_mem m K ck)
  iexact H
theorem reached_at (K : Dev nD × Cell → ℕ) (ck : Dev nD × Cell) : records m K ⊢ reached EX (kcell ck) 0 := by
  unfold records
  iintro ⟨-, H⟩
  iapply (reached_mem ck)
  iexact H

/-- The tokens of the duties device `c` pays towards partner `j`: the barrier unit, both landings, both sends. -/
def payTok (c : Dev nD) (j : Fin 3) : sProp 𝕄 :=
  iprop(dutyTok EX (kcell (partner j c, none)) 0 j
    ∗ dutyTok EX (kcell (partner j c, some (true, false, j.rev))) 0 0 ∗ dutyTok EX (kcell (partner j c, some (true, true, j.rev))) 0 0
    ∗ dutyTok EX (kcell (c, some (false, false, j))) 0 0 ∗ dutyTok EX (kcell (c, some (false, true, j))) 0 0)

/-- Device `c`'s positions at its cells, and the tokens it pays with. -/
def linear (c : Dev nD) : sProp 𝕄 :=
  iprop((bigSep Finset.univ fun k : Cell => atPos EX (kcell (c, k)) 0 ∅ 0) ∗ bigSep Finset.univ fun j => payTok c j)

/-- The credits of the waits device `c` has in store from launch: its barrier's three units, its six landings. -/
def creds (c : Dev nD) : sProp 𝕄 :=
  iprop(cred (tallyAt (kcell (c, none)) () 3)
    ∗ bigSep Finset.univ fun j : Fin 3 => iprop(cred (tallyAt (kcell (c, some (true, false, j))) () (credits false))
      ∗ cred (tallyAt (kcell (c, some (true, true, j))) () (credits true))))

def start (c : Dev nD) : sProp 𝕄 := iprop((∃ K, records m K ∗ linear c) ∗ creds c ∗ levAts L lv)

omit [FloatOps F] in
theorem bigSep_cell (Φ : Cell → sProp 𝕄) : bigSep Finset.univ Φ = bigSepL allCells Φ :=
  bigSep_univ_eq_bigSepL allCells (by decide) (by decide) Φ

end Cert.Flash

end
-- ==== Proof.Body.lean ====
/-
The body at a point that is not the last: it loads the point's blocks and stores the device's row of each buffer.
-/
module

public import proofs.«01_k».proof.Proof.Schedule

@[expose] public section

noncomputable section

namespace Cert.Flash

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)

abbrev 𝒱₀ : Variants := Variants.none

theorem rRes_emb (y : S16x1x16x64.Idx) : rRes.emb y = y := by
  funext a
  refine Fin.ext ?_
  show (![0, 0, 0, 0] : Fin 4 → ℕ) a + 1 * (y a).val = (y a).val
  fin_cases a <;> exact (Nat.zero_add _).trans (Nat.one_mul _)

omit [FloatOps F] in
theorem read_result (a4 : Memref sig .tc .vmem S16x1x16x64 .f32) (f : a4.view.ref.ty.Contents (Elt F)) (w : FVec F S16x1x16x64 .f32) :
    a4.view.read (Elt F) ((a4.access rRes : View sig .tc _ _ _).write (Elt F) f w Finset.univ) = w := by
  funext y
  have h := View.read_write_of_mem (v := (a4.access rRes : View sig .tc _ _ _)) (Val := Elt F) f w (Finset.mem_univ y)
  refine Eq.trans ?_ h
  show _ = a4.view.read (Elt F) _ (rRes.emb y)
  rw [rRes_emb]

/-- What the body holds of the windows at point `t`, the result's buffer at `X`. -/
def winsAt (c : Dev nD) (t : Fin cfg0.N) (a1 : Memref sig .tc .vmem S16x1x16x64 .bf16) (a2 a3 : Memref sig .tc .vmem S1x1024x16x64 .bf16) (a4 : Memref sig .tc .vmem S16x1x16x64 .f32)
    (X : S16x1x16x64.Idx → Elt F .f32) : sProp 𝕄 :=
  iprop(owns (c : Thread nD τ) a1 fullShare (iblk m c 0 t : S16x1x16x64.Idx → Elt F .bf16)
    ∗ owns (c : Thread nD τ) a2 fullShare (iblk m c 1 t : S1x1024x16x64.Idx → Elt F .bf16)
    ∗ owns (c : Thread nD τ) a3 fullShare (iblk m c 2 t : S1x1024x16x64.Idx → Elt F .bf16)
    ∗ owns (c : Thread nD τ) a4 fullShare X)

/-- The two buffers, whole, with the first `n` rows of the device's own slots in place. -/
def filled (c : Dev nD) (n : ℕ) : sProp 𝕄 :=
  iprop((∃ f, ⌜FilledO m c n f⌝ ∗ (((c : Thread nD τ).loc cc0_scratch0) ↦{fullShare} f))
    ∗ (∃ f, ⌜FilledS m c n f⌝ ∗ (((c : Thread nD τ).loc cc0_scratch1) ↦{fullShare} f)))

section Run

variable (c : Dev nD) (t : Fin cfg0.N) (a1 : Memref sig .tc .vmem S16x1x16x64 .bf16) (h1 : a1.IsWhole)
  (a2 : Memref sig .tc .vmem S1x1024x16x64 .bf16) (h2 : a2.IsWhole) (a3 : Memref sig .tc .vmem S1x1024x16x64 .bf16) (h3 : a3.IsWhole)
  (a4 : Memref sig .tc .vmem S16x1x16x64 .f32) (h4 : a4.IsWhole) (X : S16x1x16x64.Idx → Elt F .f32)

set_option maxHeartbeats 800000 in
theorem body_mid (ht : ¬ k0_cond1 (grid0.coords t) = 1#1) (Kt : PUnit → sProp 𝕄) :
    iprop(winsAt m c t a1 a2 a3 a4 X ∗ filled m c t.val ∗ ((winsAt m c t a1 a2 a3 a4 X ∗ filled m c (t.val + 1)) -∗ Kt ⟨⟩))
      ⊢ wp frame (wpE (defs₀ (F := F)) 𝒱₀ c none) Set.univ
          (cc0_body (grid0.coords t) a1 h1 a2 h2 a3 h3 a4 h4 (Memref.whole cc0_scratch0) (Memref.isWhole_whole _) (Memref.whole cc0_scratch1) (Memref.isWhole_whole _)
            cc0_scratch2 cc0_scratch3 cc0_scratch4 cc0_scratch5) Kt := by
  simp only [cc0_body_eq_skeleton]; unfold cc0_body_skel
  simp only [k0_part11_eq_skeleton]; unfold k0_part11_skel
  simp only [k0_part10_eq_skeleton]; unfold k0_part10_skel
  simp only [dif_neg ht, Prog.lift, Prog.bind_op, Prog.bind_ret, Prog.pure_eq_ret]
  unfold winsAt filled owns
  iintro ⟨⟨⟨%g1, %e1, H1⟩, ⟨%g2, %e2, H2⟩, ⟨%g3, %e3, H3⟩, H4⟩, ⟨⟨%f, %hf, Ho⟩, ⟨%g, %hg, Hs⟩⟩, Hk⟩
  iapply (wp_load 𝒱₀ (c : Thread nD τ) none Set.univ (m := a1) (View.setOn_subset_set _ _)) $$ H1; iintro H1
  iapply (wp_load 𝒱₀ (c : Thread nD τ) none Set.univ (m := a2) (View.setOn_subset_set _ _)) $$ H2; iintro H2
  iapply (wp_load 𝒱₀ (c : Thread nD τ) none Set.univ (m := a3) (View.setOn_subset_set _ _)) $$ H3; iintro H3
  simp only [View.readAt_eq_ld, e1, e2, e3]
  iapply (wp_load 𝒱₀ (c : Thread nD τ) none Set.univ (m := oM) (Finset.subset_univ _)) $$ Ho; iintro Ho
  iapply (wp_store 𝒱₀ (c : Thread nD τ) none Set.univ (m := oM) (r := rO t) (Mk := Finset.univ) (Finset.subset_univ _)) $$ Ho; iintro Ho
  iapply (wp_load 𝒱₀ (c : Thread nD τ) none Set.univ (m := sM) (Finset.subset_univ _)) $$ Hs; iintro Hs
  iapply (wp_store 𝒱₀ (c : Thread nD τ) none Set.univ (m := sM) (r := rM t) (Mk := Finset.univ) (Finset.subset_univ _)) $$ Hs; iintro Hs
  iapply (wp_load 𝒱₀ (c : Thread nD τ) none Set.univ (m := sM) (Finset.subset_univ _)) $$ Hs; iintro Hs
  iapply (wp_store 𝒱₀ (c : Thread nD τ) none Set.univ (m := sM) (r := rL t) (Mk := Finset.univ) (Finset.subset_univ _)) $$ Hs; iintro Hs
  rw [wp_ret]; imodintro
  iapply Hk
  isplitl [H1 H2 H3 H4]
  · isplitl [H1]
    · iexists g1; isplitr; · (ipureintro; exact e1)
      iexact H1
    isplitl [H2]
    · iexists g2; isplitr; · (ipureintro; exact e2)
      iexact H2
    isplitl [H3]
    · iexists g3; isplitr; · (ipureintro; exact e3)
      iexact H3
    iexact H4
  isplitl [Ho]
  · iexists _; isplitr; · (ipureintro; exact filledO_step m c t f hf)
    iexact Ho
  · iexists _; isplitr; · (ipureintro; exact filledS_step m c t g hg)
    iexact Hs

end Run

end Cert.Flash

end
-- ==== Proof.Steps.lean ====
/-
The steps of the exchange, each for any of the three partners: the announcement, the two transfers, a wait on a
transfer's cell, and the barrier wait.
-/
module

public import proofs.«01_k».proof.Proof.Body

@[expose] public section

noncomputable section

namespace Cert.Flash

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)

/-- Device `c` owes `O`, whatever waits it has recorded. -/
def owesOnly (c : Dev nD) (O : CellTallies nD τ sig Unit) : sProp 𝕄 := iprop(∃ W, owes (c : Thread nD τ) O W)

theorem pay_bar (c : Dev nD) (j : Fin 3) :
    payAt m (partner j c) none j = iprop((∃ f, oPts c j.succ fullShare f) ∗ (∃ f, sPts c j.succ fullShare f)) := by
  show iprop((∃ f, oPts (partner j.rev (partner j c)) j.succ fullShare f) ∗ (∃ f, sPts (partner j.rev (partner j c)) j.succ fullShare f)) = _
  rw [partner_rev]

theorem oSlot_amount (k : Fin 4) (q : DmaSem sig) : (oSlot k).view.amount (.dma q) = credits false := rfl
theorem sSlot_amount (k : Fin 4) (q : DmaSem sig) : (sSlot k).view.amount (.dma q) = credits true := rfl

section Steps

variable (K : Dev nD × Cell → ℕ) (c n : Dev nD) (j : Fin 3) {α : Type}

/-- The announcement to partner `j`, with this device's landing slots for it. -/
theorem wp_announce (hn : n = partner j c) {Q : α → sProp 𝕄} {k : PUnit → Prog (TpuEff nD τ sig (Elt F) Λ₀ .tc) α} {u : ℕ} (hu : 1 = u) {O' : CellTallies nD τ sig Unit} (O : CellTallies nD τ sig Unit)
    (hO : O' = O + tallyAt (kcell (partner j c, none)) () 1) :
    iprop(records m K ∗ owesOnly c O' ∗ dutyTok EX (kcell (partner j c, none)) 0 j ∗ (∃ f, oPts (F := F) c j.succ fullShare f) ∗ (∃ f, sPts (F := F) c j.succ fullShare f))
      ⊢ iprop((owesOnly c O -∗ wp frame (wpE (defs₀ (F := F)) 𝒱₀ (c : Thread nD τ) none) Set.univ (k ⟨⟩) Q)
          -∗ wp frame (wpE (defs₀ (F := F)) 𝒱₀ (c : Thread nD τ) none) Set.univ (.op (.semSignal (n : Thread nD τ) barS u) k) Q) := by
  subst hn; subst hu
  unfold owesOnly
  iintro ⟨#HR, ⟨%W, HO⟩, Ht, Hp⟩ Hk
  iapply (Rounds.wp_signal 𝒱₀ EX (sched m) (c : Thread nD τ) none (dst := (partner j c : Thread nD τ)) (κ := K (partner j c, none))
      (d := j) (by rw [duties_at m (partner j c) none]; exact Finset.mem_univ _) (amount_at m (partner j c) none j) () O hO)
    $$ [HO Ht Hp]
  · isplitr; · iapply (inv_at m K (partner j c, none)); iexact HR
    isplitl [HO]; · iexact HO
    isplitl [Ht]; · iexact Ht
    isplitl [Hp]
    · rw [payload_at m (partner j c) none j, pay_bar]; iexact Hp
    · iapply (reached_at m K (partner j c, none)); iexact HR
  iintro HO
  iapply Hk
  iexists W; iexact HO

/-- Transfer `j` of the numerators. -/
theorem wp_sendO (hn : n = partner j c) {Q : α → sProp 𝕄} {k : PUnit → Prog (TpuEff nD τ sig (Elt F) Λ₀ .tc) α} {hsc : (oSlot j.rev.succ : Memref sig (Dev.tc n : Thread nD τ).2.kind .vmem S16x1024 .f32).view.ref.isScScratch = false}
    {hsrc : (oSlot 0).view.WordExact} {hdst : (oSlot j.rev.succ).view.WordExact}
    {hsem : DmaTarget.Typed .vmem (.dma (semOf cc0_scratch3 j.rev)) (.remote (Dev.tc n : Thread nD τ) (oSlot j.rev.succ) (.dma (semOf cc0_scratch2 j)) hsc)}
    {O' : CellTallies nD τ sig Unit} (O : CellTallies nD τ sig Unit)
    (hO : O' = O + tallyAt (kcell (partner j c, some (true, false, j.rev))) () (credits false)) :
    iprop(records m K ∗ oPts c 0 (part j) (oAll m c) ∗ (∃ f, oPts (F := F) (partner j c) j.rev.succ fullShare f) ∗ owesOnly c O'
        ∗ dutyTok EX (kcell (c, some (false, false, j))) 0 0 ∗ dutyTok EX (kcell (partner j c, some (true, false, j.rev))) 0 0)
      ⊢ iprop(((cred (tallyAt (kcell (c, some (false, false, j))) () (credits false)) ∗ owesOnly c O) -∗ wp frame (wpE (defs₀ (F := F)) 𝒱₀ (c : Thread nD τ) none) Set.univ (k ⟨⟩) Q)
          -∗ wp frame (wpE (defs₀ (F := F)) 𝒱₀ (c : Thread nD τ) none) Set.univ
              (.op (.enqueueDma (oSlot 0) (.remote (Dev.tc n : Thread nD τ) (oSlot j.rev.succ) (.dma (semOf cc0_scratch2 j)) hsc) (.dma (semOf cc0_scratch3 j.rev)) hsrc hdst hsem) k) Q) := by
  subst hn
  unfold owesOnly
  iintro ⟨#HR, Hs, ⟨%f, Hd⟩, ⟨%W, HO⟩, Ht, Ht'⟩ Hk
  iapply (Rounds.wp_send_pointsTo 𝒱₀ EX (sched m) (c : Thread nD τ) none (κ₁ := K (c, some (false, false, j))) (κ₂ := K (partner j c, some (true, false, j.rev)))
      (r₁ := 0) (r₂ := 0) (d₁ := (0 : Fin 3)) (d₂ := (0 : Fin 3)) (fs := oAll m c) (fd := f) (q := part j)
      (by rw [duties_at m c (some (false, false, j))]; exact Finset.mem_singleton_self _)
      (by rw [duties_at m (partner j c) (some (true, false, j.rev))]; exact Finset.mem_singleton_self _)
      () () (credits false) (oSlot_amount _ _) (amount_at m c (some (false, false, j)) 0) (amount_at m (partner j c) (some (true, false, j.rev)) 0) O hO (W := W)
      (by rw [payload_at m c (some (false, false, j)) 0]; exact Entails.of_eq (oPts_view c 0 (part j) (oAll m c)).symm)
      (by
        rw [payload_at m (partner j c) (some (true, false, j.rev)) 0]
        exact (Entails.of_eq (oPts_view (partner j c) j.rev.succ fullShare _).symm).trans
          (Entails.of_eq (oPts_congr (partner j c) j.rev.succ fullShare fun x hx => landedO m c j f x hx)))) $$ [Hs Hd HO Ht Ht']
  · isplitr; · iapply (inv_at m K (c, some (false, false, j))); iexact HR
    isplitr; · iapply (inv_at m K (partner j c, some (true, false, j.rev))); iexact HR
    isplitl [Hs]; · iapply (Entails.of_eq (oPts_view c 0 (part j) (oAll m c))); iexact Hs
    isplitl [Hd]; · iapply (Entails.of_eq (oPts_view (partner j c) j.rev.succ fullShare f)); iexact Hd
    isplitl [HO]; · iexact HO
    isplitl [Ht]; · iexact Ht
    isplitr; · iapply (reached_at m K (c, some (false, false, j))); iexact HR
    isplitl [Ht']; · iexact Ht'
    iapply (reached_at m K (partner j c, some (true, false, j.rev))); iexact HR
  iintro ⟨Hc, HO⟩
  iapply Hk
  isplitl [Hc]; · iexact Hc
  iexists W; iexact HO

/-- Transfer `j` of the statistics. -/
theorem wp_sendS (hn : n = partner j c) {Q : α → sProp 𝕄} {k : PUnit → Prog (TpuEff nD τ sig (Elt F) Λ₀ .tc) α} {hsc : (sSlot j.rev.succ : Memref sig (Dev.tc n : Thread nD τ).2.kind .vmem S2x16x16 .f32).view.ref.isScScratch = false}
    {hsrc : (sSlot 0).view.WordExact} {hdst : (sSlot j.rev.succ).view.WordExact}
    {hsem : DmaTarget.Typed .vmem (.dma (semOf cc0_scratch5 j.rev)) (.remote (Dev.tc n : Thread nD τ) (sSlot j.rev.succ) (.dma (semOf cc0_scratch4 j)) hsc)}
    {O' : CellTallies nD τ sig Unit} (O : CellTallies nD τ sig Unit)
    (hO : O' = O + tallyAt (kcell (partner j c, some (true, true, j.rev))) () (credits true)) :
    iprop(records m K ∗ sPts c 0 (part j) (sAll m c) ∗ (∃ f, sPts (F := F) (partner j c) j.rev.succ fullShare f) ∗ owesOnly c O'
        ∗ dutyTok EX (kcell (c, some (false, true, j))) 0 0 ∗ dutyTok EX (kcell (partner j c, some (true, true, j.rev))) 0 0)
      ⊢ iprop(((cred (tallyAt (kcell (c, some (false, true, j))) () (credits true)) ∗ owesOnly c O) -∗ wp frame (wpE (defs₀ (F := F)) 𝒱₀ (c : Thread nD τ) none) Set.univ (k ⟨⟩) Q)
          -∗ wp frame (wpE (defs₀ (F := F)) 𝒱₀ (c : Thread nD τ) none) Set.univ
              (.op (.enqueueDma (sSlot 0) (.remote (Dev.tc n : Thread nD τ) (sSlot j.rev.succ) (.dma (semOf cc0_scratch4 j)) hsc) (.dma (semOf cc0_scratch5 j.rev)) hsrc hdst hsem) k) Q) := by
  subst hn
  unfold owesOnly
  iintro ⟨#HR, Hs, ⟨%f, Hd⟩, ⟨%W, HO⟩, Ht, Ht'⟩ Hk
  iapply (Rounds.wp_send_pointsTo 𝒱₀ EX (sched m) (c : Thread nD τ) none (κ₁ := K (c, some (false, true, j))) (κ₂ := K (partner j c, some (true, true, j.rev)))
      (r₁ := 0) (r₂ := 0) (d₁ := (0 : Fin 3)) (d₂ := (0 : Fin 3)) (fs := sAll m c) (fd := f) (q := part j)
      (by rw [duties_at m c (some (false, true, j))]; exact Finset.mem_singleton_self _)
      (by rw [duties_at m (partner j c) (some (true, true, j.rev))]; exact Finset.mem_singleton_self _)
      () () (credits true) (sSlot_amount _ _) (amount_at m c (some (false, true, j)) 0) (amount_at m (partner j c) (some (true, true, j.rev)) 0) O hO (W := W)
      (by rw [payload_at m c (some (false, true, j)) 0]; exact Entails.of_eq (sPts_view c 0 (part j) (sAll m c)).symm)
      (by
        rw [payload_at m (partner j c) (some (true, true, j.rev)) 0]
        exact (Entails.of_eq (sPts_view (partner j c) j.rev.succ fullShare _).symm).trans
          (Entails.of_eq (sPts_congr (partner j c) j.rev.succ fullShare fun x hx => landedS m c j f x hx)))) $$ [Hs Hd HO Ht Ht']
  · isplitr; · iapply (inv_at m K (c, some (false, true, j))); iexact HR
    isplitr; · iapply (inv_at m K (partner j c, some (true, true, j.rev))); iexact HR
    isplitl [Hs]; · iapply (Entails.of_eq (sPts_view c 0 (part j) (sAll m c))); iexact Hs
    isplitl [Hd]; · iapply (Entails.of_eq (sPts_view (partner j c) j.rev.succ fullShare f)); iexact Hd
    isplitl [HO]; · iexact HO
    isplitl [Ht]; · iexact Ht
    isplitr; · iapply (reached_at m K (c, some (false, true, j))); iexact HR
    isplitl [Ht']; · iexact Ht'
    iapply (reached_at m K (partner j c, some (true, true, j.rev))); iexact HR
  iintro ⟨Hc, HO⟩
  iapply Hk
  isplitl [Hc]; · iexact Hc
  iexists W; iexact HO

/-- A wait on a transfer's cell, owing nothing: what the cell hands over, and its counter back at zero. -/
theorem wp_collect (b r : Bool) {Q : α → sProp 𝕄} {k : PUnit → Prog (TpuEff nD τ sig (Elt F) Λ₀ .tc) α} {e e' : EltTy} {s s' : Shape} {src : Memref sig .tc .vmem s' e'} {dst : Memref sig .tc .vmem s e}
    {hsrc : src.view.WordExact} {hdst : dst.view.WordExact} (hcr : dst.view.dmaCredit = credits b) :
    iprop(records m K ∗ cred (tallyAt (kcell (c, some (r, b, j))) () (credits b)) ∗ owesOnly c 0 ∗ atPos EX (kcell (c, some (r, b, j))) 0 ∅ 0)
      ⊢ iprop(((owesOnly c 0 ∗ semVal (kcell (c, some (r, b, j))) 0 ∗ payAt m c (some (r, b, j)) 0) -∗ wp frame (wpE (defs₀ (F := F)) 𝒱₀ (c : Thread nD τ) none) Set.univ (k ⟨⟩) Q)
          -∗ wp frame (wpE (defs₀ (F := F)) 𝒱₀ (c : Thread nD τ) none) Set.univ
              (.op (.waitDma2 (semOf (semArr r b) j) src dst hsrc hdst) k) Q) := by
  rw [← hcr]
  unfold owesOnly
  iintro ⟨#HR, Hc, ⟨%W, HO⟩, Hat⟩ Hk
  iapply (Rounds.wp_wait_rest_token 𝒱₀ EX (sched m) (c : Thread nD τ) none (κ := K (c, some (r, b, j)))
      (wpE_waitDma2_eq 𝒱₀ (c : Thread nD τ) none Set.univ) (Set.mem_univ _) () (O := 0) (W := W) (R := 0) (m := 0) (T := ∅)
      (by rw [Nat.zero_add, expect_at m c (some (r, b, j)), hcr]; rfl)) $$ [Hc HO Hat]
  · isplitr; · iapply (inv_at m K (c, some (r, b, j))); iexact HR
    isplitl [Hc]; · iexact Hc
    isplitl [HO]; · iexact HO
    isplitr; · rw [MayWait_zero]; iempintro
    iexact Hat
  iintro ⟨HO, Hat, -, Hpay⟩
  ihave Hpay := (Entails.of_eq (rest_one m c (r, b, j))) $$ Hpay
  imod (Rounds.cell_close EX (sched m) (Set.mem_univ (K (c, some (r, b, j)))) (fun h => h) (R := 0 + 1) (duties_later m (kcell (c, some (r, b, j))))) $$ [Hat] with Hz
  · isplitr; · iapply (inv_at m K (c, some (r, b, j))); iexact HR
    iexact Hat
  iapply Hk
  isplitl [HO]; · iexists _; iexact HO
  isplitl [Hz] <;> iassumption

/-- The barrier wait, owing the six landings: each partner's landing slots for this device, and the counter back at zero. -/
theorem wp_barrier {u : ℕ} (hu : 3 = u) {Q : α → sProp 𝕄} {k : PUnit → Prog (TpuEff nD τ sig (Elt F) Λ₀ .tc) α} :
    iprop(records m K ∗ levAts L lv ∗ cred (tallyAt (kcell (c, none)) () 3) ∗ owesOnly c (due c 6) ∗ atPos EX (kcell (c, none)) 0 ∅ 0)
      ⊢ iprop(((owesOnly c (due c 6) ∗ semVal (kcell (c, none)) 0 ∗ payAt m c none 0 ∗ payAt m c none 1 ∗ payAt m c none 2)
              -∗ wp frame (wpE (defs₀ (F := F)) 𝒱₀ (c : Thread nD τ) none) Set.univ (k ⟨⟩) Q)
          -∗ wp frame (wpE (defs₀ (F := F)) 𝒱₀ (c : Thread nD τ) none) Set.univ (.op (.semWait barS u) k) Q) := by
  subst hu
  unfold owesOnly
  iintro ⟨#HR, #Hlev, Hc, ⟨%W, HO⟩, Hat⟩ Hk
  iapply (Rounds.wp_wait_rest_token 𝒱₀ EX (sched m) (c : Thread nD τ) none (κ := K (c, none))
      (wpE_semWait_eq 𝒱₀ (c : Thread nD τ) none Set.univ) (Set.mem_univ _) () (O := due c 6) (W := W) (R := 0) (m := 0) (T := ∅)
      (by rw [Nat.zero_add, expect_at m c none]; rfl)) $$ [Hc HO Hat]
  · isplitr; · iapply (inv_at m K (c, none)); iexact HR
    isplitl [Hc]; · iexact Hc
    isplitl [HO]; · iexact HO
    isplitr; · iapply (mayWait_bar c); iexact Hlev
    iexact Hat
  iintro ⟨HO, Hat, -, Hpay⟩
  ihave Hpay := (Entails.of_eq (rest_bar m c)) $$ Hpay
  imod (Rounds.cell_close EX (sched m) (Set.mem_univ (K (c, none))) (fun h => h) (R := 0 + 1) (duties_later m (kcell (c, none)))) $$ [Hat] with Hz
  · isplitr; · iapply (inv_at m K (c, none)); iexact HR
    iexact Hat
  iapply Hk
  isplitl [HO]; · iexists _; iexact HO
  isplitl [Hz] <;> iassumption

end Steps

end Cert.Flash

end
-- ==== Proof.Last.lean ====
/-
The body at the last point: the last rows, the announcements, the six transfers, the waits, and the result.
-/
module

public import proofs.«01_k».proof.Proof.Steps

@[expose] public section

noncomputable section

namespace Cert.Flash

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)

/-- After the last point: both buffers whole, and every counter of the exchange back at zero. -/
def done (c : Dev nD) : sProp 𝕄 :=
  iprop((∃ f : Buf (Elt F) ((c : Thread nD τ).loc cc0_scratch0), ((c : Thread nD τ).loc cc0_scratch0) ↦{fullShare} f)
    ∗ (∃ f : Buf (Elt F) ((c : Thread nD τ).loc cc0_scratch1), ((c : Thread nD τ).loc cc0_scratch1) ↦{fullShare} f)
    ∗ bigSep Finset.univ fun k : Cell => semVal (kcell (c, k)) 0)

/-- A filled buffer is the device's own slot in its final state and three slots at anything. -/
theorem splitO (c : Dev nD) (f : Buf (Elt F) ((c : Thread nD τ).loc cc0_scratch0)) (h : FilledO m c 16 f) :
    (((c : Thread nD τ).loc cc0_scratch0) ↦{fullShare} f : sProp 𝕄)
      = iprop(oPts c 0 fullShare (oAll m c) ∗ oPts c 1 fullShare f ∗ oPts c 2 fullShare f ∗ oPts c 3 fullShare f) := by
  rw [oPts_whole, oPts_congr c 0 fullShare (g := oAll m c) fun x hx => h x (Finset.mem_filter.mp hx).2 (x 1).isLt]
theorem splitS (c : Dev nD) (f : Buf (Elt F) ((c : Thread nD τ).loc cc0_scratch1)) (h : FilledS m c 16 f) :
    (((c : Thread nD τ).loc cc0_scratch1) ↦{fullShare} f : sProp 𝕄)
      = iprop(sPts c 0 fullShare (sAll m c) ∗ sPts c 1 fullShare f ∗ sPts c 2 fullShare f ∗ sPts c 3 fullShare f) := by
  rw [sPts_whole, sPts_congr c 0 fullShare (g := sAll m c) fun x hx => h x (Finset.mem_filter.mp hx).2 (x 2).isLt]

/-- What the numerators' cells hand over is the whole buffer in its final state. -/
theorem joinO (c : Dev nD) :
    iprop(payAt m c (some (false, false, 0)) 0 ∗ payAt m c (some (false, false, 1)) 0 ∗ payAt m c (some (false, false, 2)) 0
        ∗ payAt m c (some (true, false, 0)) 0 ∗ payAt m c (some (true, false, 1)) 0 ∗ payAt m c (some (true, false, 2)) 0)
      ⊢ (((c : Thread nD τ).loc cc0_scratch0) ↦{fullShare} oAll m c : sProp 𝕄) := by
  rw [oPts_whole]
  unfold payAt
  iintro ⟨H0, H1, H2, H3, H4, H5⟩
  isplitl [H0 H1 H2]
  · iapply ((oPts_parts c (oAll m c)).2)
    isplitl [H0]; · iexact H0
    isplitl [H1]; · iexact H1
    iexact H2
  isplitl [H3]; · iexact H3
  isplitl [H4]; · iexact H4
  iexact H5

/-- What the statistics' cells hand over is the whole buffer in its final state. -/
theorem joinS (c : Dev nD) :
    iprop(payAt m c (some (false, true, 0)) 0 ∗ payAt m c (some (false, true, 1)) 0 ∗ payAt m c (some (false, true, 2)) 0
        ∗ payAt m c (some (true, true, 0)) 0 ∗ payAt m c (some (true, true, 1)) 0 ∗ payAt m c (some (true, true, 2)) 0)
      ⊢ (((c : Thread nD τ).loc cc0_scratch1) ↦{fullShare} sAll m c : sProp 𝕄) := by
  rw [sPts_whole]
  unfold payAt
  iintro ⟨H0, H1, H2, H3, H4, H5⟩
  isplitl [H0 H1 H2]
  · iapply ((sPts_parts c (sAll m c)).2)
    isplitl [H0]; · iexact H0
    isplitl [H1]; · iexact H1
    iexact H2
  isplitl [H3]; · iexact H3
  isplitl [H4]; · iexact H4
  iexact H5

/-- A conjunction over the exchange's cells, written out. -/
theorem bigSep_cells (Φ : Cell → sProp 𝕄) :
    bigSep Finset.univ Φ = iprop(Φ none ∗ Φ (some (false, false, 0)) ∗ Φ (some (false, false, 1)) ∗ Φ (some (false, false, 2)) ∗ Φ (some (true, false, 0)) ∗ Φ (some (true, false, 1)) ∗ Φ (some (true, false, 2)) ∗ Φ (some (false, true, 0)) ∗ Φ (some (false, true, 1)) ∗ Φ (some (false, true, 2)) ∗ Φ (some (true, true, 0)) ∗ Φ (some (true, true, 1)) ∗ Φ (some (true, true, 2)) ) := by
  rw [bigSep_cell]; rfl

section Run

variable (K : Dev nD × Cell → ℕ) (c : Dev nD) (t : Fin cfg0.N) (a1 : Memref sig .tc .vmem S16x1x16x64 .bf16) (h1 : a1.IsWhole)
  (a2 : Memref sig .tc .vmem S1x1024x16x64 .bf16) (h2 : a2.IsWhole) (a3 : Memref sig .tc .vmem S1x1024x16x64 .bf16) (h3 : a3.IsWhole)
  (a4 : Memref sig .tc .vmem S16x1x16x64 .f32) (h4 : a4.IsWhole) (X : S16x1x16x64.Idx → Elt F .f32)

/-- What the last point starts from beside the windows. -/
def lastPre : sProp 𝕄 :=
  iprop(filled m c 15 ∗ records m K ∗ levAts L lv ∗ owesOnly c (due c 9) ∗ creds c ∗ linear c)

set_option maxHeartbeats 4000000 in
theorem body_last (ht : k0_cond1 (grid0.coords t) = 1#1) (Kt : PUnit → sProp 𝕄) :
    iprop(winsAt m c t a1 a2 a3 a4 X ∗ lastPre m K c ∗ ((winsAt m c t a1 a2 a3 a4 (outAt m c) ∗ done c ∗ owesOnly c 0) -∗ Kt ⟨⟩))
      ⊢ wp frame (wpE (defs₀ (F := F)) 𝒱₀ c none) Set.univ
          (cc0_body (grid0.coords t) a1 h1 a2 h2 a3 h3 a4 h4 (Memref.whole cc0_scratch0) (Memref.isWhole_whole _) (Memref.whole cc0_scratch1) (Memref.isWhole_whole _)
            cc0_scratch2 cc0_scratch3 cc0_scratch4 cc0_scratch5) Kt := by
  have ht' : t.val = 15 := (cond_last t).mp ht
  simp only [cc0_body_eq_skeleton]; unfold cc0_body_skel
  simp only [k0_part11_eq_skeleton]; unfold k0_part11_skel
  simp only [k0_part10_eq_skeleton]; unfold k0_part10_skel
  simp only [dif_pos ht, k0_part1_eq_skeleton, k0_part2_eq_skeleton, k0_part3_eq_skeleton, k0_part4_eq_skeleton, k0_part5_eq_skeleton,
    k0_part6_eq_skeleton, k0_part7_eq_skeleton, k0_part8_eq_skeleton, k0_part9_eq_skeleton]
  unfold k0_part1_skel k0_part2_skel k0_part3_skel k0_part4_skel k0_part5_skel k0_part6_skel k0_part7_skel k0_part8_skel k0_part9_skel
  simp only [semSignalWord, semWaitWord, Prog.lift, Prog.bind_op, Prog.bind_ret, Prog.pure_eq_ret]
  unfold winsAt lastPre filled owns creds linear
  iintro ⟨⟨⟨%g1, %e1, H1⟩, ⟨%g2, %e2, H2⟩, ⟨%g3, %e3, H3⟩, ⟨%g4, %e4, H4⟩⟩, ⟨⟨⟨%f, %hf, Ho⟩, ⟨%g, %hg, Hs⟩⟩, #HR, #Hlev, HO, ⟨HcB, HcR⟩, Hat, Htok⟩, Hk⟩
  rw [← ht'] at hf hg
  iapply (wp_load 𝒱₀ (c : Thread nD τ) none Set.univ (m := a1) (View.setOn_subset_set _ _)) $$ H1; iintro H1
  iapply (wp_load 𝒱₀ (c : Thread nD τ) none Set.univ (m := a2) (View.setOn_subset_set _ _)) $$ H2; iintro H2
  iapply (wp_load 𝒱₀ (c : Thread nD τ) none Set.univ (m := a3) (View.setOn_subset_set _ _)) $$ H3; iintro H3
  simp only [View.readAt_eq_ld, e1, e2, e3]
  iapply (wp_load 𝒱₀ (c : Thread nD τ) none Set.univ (m := oM) (Finset.subset_univ _)) $$ Ho; iintro Ho
  iapply (wp_store 𝒱₀ (c : Thread nD τ) none Set.univ (m := oM) (r := rO t) (Mk := Finset.univ) (Finset.subset_univ _)) $$ Ho; iintro Ho
  iapply (wp_load 𝒱₀ (c : Thread nD τ) none Set.univ (m := sM) (Finset.subset_univ _)) $$ Hs; iintro Hs
  iapply (wp_store 𝒱₀ (c : Thread nD τ) none Set.univ (m := sM) (r := rM t) (Mk := Finset.univ) (Finset.subset_univ _)) $$ Hs; iintro Hs
  iapply (wp_load 𝒱₀ (c : Thread nD τ) none Set.univ (m := sM) (Finset.subset_univ _)) $$ Hs; iintro Hs
  iapply (wp_store 𝒱₀ (c : Thread nD τ) none Set.univ (m := sM) (r := rL t) (Mk := Finset.univ) (Finset.subset_univ _)) $$ Hs; iintro Hs
  ihave Hf : iprop(filled m c (t.val + 1)) $$ [Ho Hs]
  · unfold filled
    isplitl [Ho]
    · iexists _; isplitr; · (ipureintro; exact filledO_step m c t f hf)
      iexact Ho
    · iexists _; isplitr; · (ipureintro; exact filledS_step m c t g hg)
      iexact Hs
  rw [show t.val + 1 = 16 by rw [ht']]
  unfold filled
  icases Hf with ⟨⟨%f', %hf', Ho⟩, ⟨%g', %hg', Hs⟩⟩
  ihave Ho := (Entails.of_eq (splitO m c f' hf')) $$ Ho
  ihave Hs := (Entails.of_eq (splitS m c g' hg')) $$ Hs
  icases Ho with ⟨Ho0, Ho1, Ho2, Ho3⟩
  icases Hs with ⟨Hs0, Hs1, Hs2, Hs3⟩
  ihave HcR := (Entails.of_eq (bigSep_fin3 _)) $$ HcR
  ihave Htok := (Entails.of_eq (bigSep_fin3 _)) $$ Htok
  ihave Hat := (Entails.of_eq (bigSep_cells _)) $$ Hat
  unfold payTok
  icases HcR with ⟨⟨Hc00, Hc10⟩, ⟨Hc01, Hc11⟩, ⟨Hc02, Hc12⟩⟩
  icases Htok with ⟨⟨Tb0, Tr00, Tr10, Ts00, Ts10⟩, ⟨Tb1, Tr01, Tr11, Ts01, Ts11⟩, ⟨Tb2, Tr02, Tr12, Ts02, Ts12⟩⟩
  icases Hat with ⟨AB, AS00, AS01, AS02, AR00, AR01, AR02, AS10, AS11, AS12, AR10, AR11, AR12⟩
  -- the announcements
  simp only [wp_deviceId]
  iapply (wp_announce m K c _ 0 (dev_eq _ _ c 1 (k0_dev1_eq c)) (by decide) (due c 8) rfl) $$ [HO Tb0 Ho1 Hs1]
  · isplitr; · iexact HR
    isplitl [HO]; · iexact HO
    isplitl [Tb0]; · iexact Tb0
    isplitl [Ho1]; · iexists _; iexact Ho1
    iexists _; iexact Hs1
  iintro HO
  iapply (wp_announce m K c _ 1 (dev_eq _ _ c 2 (k0_dev2_eq c)) (by decide) (due c 7) rfl) $$ [HO Tb1 Ho2 Hs2]
  · isplitr; · iexact HR
    isplitl [HO]; · iexact HO
    isplitl [Tb1]; · iexact Tb1
    isplitl [Ho2]; · iexists _; iexact Ho2
    iexists _; iexact Hs2
  iintro HO
  iapply (wp_announce m K c _ 2 (dev_eq _ _ c 3 (k0_dev3_eq c)) (by decide) (due c 6) rfl) $$ [HO Tb2 Ho3 Hs3]
  · isplitr; · iexact HR
    isplitl [HO]; · iexact HO
    isplitl [Tb2]; · iexact Tb2
    isplitl [Ho3]; · iexists _; iexact Ho3
    iexists _; iexact Hs3
  iintro HO
  -- the barrier: the partners' landing slots
  iapply (wp_barrier m K c (by decide)) $$ [HO HcB AB]
  · isplitr; · iexact HR
    isplitr; · iexact Hlev
    isplitl [HcB]; · iexact HcB
    isplitl [HO]; · iexact HO
    iexact AB
  unfold payAt
  iintro ⟨HO, ZB, ⟨⟨%fa0, Da0⟩, ⟨%fb0, Db0⟩⟩, ⟨⟨%fa1, Da1⟩, ⟨%fb1, Db1⟩⟩, ⟨⟨%fa2, Da2⟩, ⟨%fb2, Db2⟩⟩⟩
  ihave Ho0 := ((oPts_parts c (oAll m c)).1) $$ Ho0
  ihave Hs0 := ((sPts_parts c (sAll m c)).1) $$ Hs0
  icases Ho0 with ⟨Po0, Po1, Po2⟩
  icases Hs0 with ⟨Ps0, Ps1, Ps2⟩
  -- the transfers
  iapply (wp_sendO m K c _ 0 (dev_eq _ _ c 1 (k0_dev4_eq c)) (due c 5) rfl) $$ [HO Ts00 Tr00 Po0 Da2]
  · isplitr; · iexact HR
    isplitl [Po0]; · iexact Po0
    isplitl [Da2]; · iexists _; iexact Da2
    isplitl [HO]; · iexact HO
    isplitl [Ts00]; · iexact Ts00
    iexact Tr00
  iintro ⟨Hd00, HO⟩
  iapply (wp_sendS m K c _ 0 (dev_eq _ _ c 1 (k0_dev5_eq c)) (due c 4) rfl) $$ [HO Ts10 Tr10 Ps0 Db2]
  · isplitr; · iexact HR
    isplitl [Ps0]; · iexact Ps0
    isplitl [Db2]; · iexists _; iexact Db2
    isplitl [HO]; · iexact HO
    isplitl [Ts10]; · iexact Ts10
    iexact Tr10
  iintro ⟨Hd10, HO⟩
  iapply (wp_sendO m K c _ 1 (dev_eq _ _ c 2 (k0_dev6_eq c)) (due c 3) rfl) $$ [HO Ts01 Tr01 Po1 Da1]
  · isplitr; · iexact HR
    isplitl [Po1]; · iexact Po1
    isplitl [Da1]; · iexists _; iexact Da1
    isplitl [HO]; · iexact HO
    isplitl [Ts01]; · iexact Ts01
    iexact Tr01
  iintro ⟨Hd01, HO⟩
  iapply (wp_sendS m K c _ 1 (dev_eq _ _ c 2 (k0_dev7_eq c)) (due c 2) rfl) $$ [HO Ts11 Tr11 Ps1 Db1]
  · isplitr; · iexact HR
    isplitl [Ps1]; · iexact Ps1
    isplitl [Db1]; · iexists _; iexact Db1
    isplitl [HO]; · iexact HO
    isplitl [Ts11]; · iexact Ts11
    iexact Tr11
  iintro ⟨Hd11, HO⟩
  iapply (wp_sendO m K c _ 2 (dev_eq _ _ c 3 (k0_dev8_eq c)) (due c 1) rfl) $$ [HO Ts02 Tr02 Po2 Da0]
  · isplitr; · iexact HR
    isplitl [Po2]; · iexact Po2
    isplitl [Da0]; · iexists _; iexact Da0
    isplitl [HO]; · iexact HO
    isplitl [Ts02]; · iexact Ts02
    iexact Tr02
  iintro ⟨Hd02, HO⟩
  iapply (wp_sendS m K c _ 2 (dev_eq _ _ c 3 (k0_dev9_eq c)) (due c 0) rfl) $$ [HO Ts12 Tr12 Ps2 Db0]
  · isplitr; · iexact HR
    isplitl [Ps2]; · iexact Ps2
    isplitl [Db0]; · iexists _; iexact Db0
    isplitl [HO]; · iexact HO
    isplitl [Ts12]; · iexact Ts12
    iexact Tr12
  iintro ⟨Hd12, HO⟩
  -- the waits
  iapply (wp_collect m K c 0 false true (by rfl)) $$ [HO Hc00 AR00]
  · isplitr; · iexact HR
    isplitl [Hc00]; · iexact Hc00
    isplitl [HO]; · iexact HO
    iexact AR00
  iintro ⟨HO, ZR00, R00⟩
  iapply (wp_collect m K c 0 true true (by rfl)) $$ [HO Hc10 AR10]
  · isplitr; · iexact HR
    isplitl [Hc10]; · iexact Hc10
    isplitl [HO]; · iexact HO
    iexact AR10
  iintro ⟨HO, ZR10, R10⟩
  iapply (wp_collect m K c 1 false true (by rfl)) $$ [HO Hc01 AR01]
  · isplitr; · iexact HR
    isplitl [Hc01]; · iexact Hc01
    isplitl [HO]; · iexact HO
    iexact AR01
  iintro ⟨HO, ZR01, R01⟩
  iapply (wp_collect m K c 1 true true (by rfl)) $$ [HO Hc11 AR11]
  · isplitr; · iexact HR
    isplitl [Hc11]; · iexact Hc11
    isplitl [HO]; · iexact HO
    iexact AR11
  iintro ⟨HO, ZR11, R11⟩
  iapply (wp_collect m K c 2 false true (by rfl)) $$ [HO Hc02 AR02]
  · isplitr; · iexact HR
    isplitl [Hc02]; · iexact Hc02
    isplitl [HO]; · iexact HO
    iexact AR02
  iintro ⟨HO, ZR02, R02⟩
  iapply (wp_collect m K c 2 true true (by rfl)) $$ [HO Hc12 AR12]
  · isplitr; · iexact HR
    isplitl [Hc12]; · iexact Hc12
    isplitl [HO]; · iexact HO
    iexact AR12
  iintro ⟨HO, ZR12, R12⟩
  iapply (wp_collect m K c 0 false false (by rfl)) $$ [HO Hd00 AS00]
  · isplitr; · iexact HR
    isplitl [Hd00]; · iexact Hd00
    isplitl [HO]; · iexact HO
    iexact AS00
  iintro ⟨HO, ZS00, Q00⟩
  iapply (wp_collect m K c 0 true false (by rfl)) $$ [HO Hd10 AS10]
  · isplitr; · iexact HR
    isplitl [Hd10]; · iexact Hd10
    isplitl [HO]; · iexact HO
    iexact AS10
  iintro ⟨HO, ZS10, Q10⟩
  iapply (wp_collect m K c 1 false false (by rfl)) $$ [HO Hd01 AS01]
  · isplitr; · iexact HR
    isplitl [Hd01]; · iexact Hd01
    isplitl [HO]; · iexact HO
    iexact AS01
  iintro ⟨HO, ZS01, Q01⟩
  iapply (wp_collect m K c 1 true false (by rfl)) $$ [HO Hd11 AS11]
  · isplitr; · iexact HR
    isplitl [Hd11]; · iexact Hd11
    isplitl [HO]; · iexact HO
    iexact AS11
  iintro ⟨HO, ZS11, Q11⟩
  iapply (wp_collect m K c 2 false false (by rfl)) $$ [HO Hd02 AS02]
  · isplitr; · iexact HR
    isplitl [Hd02]; · iexact Hd02
    isplitl [HO]; · iexact HO
    iexact AS02
  iintro ⟨HO, ZS02, Q02⟩
  iapply (wp_collect m K c 2 true false (by rfl)) $$ [HO Hd12 AS12]
  · isplitr; · iexact HR
    isplitl [Hd12]; · iexact Hd12
    isplitl [HO]; · iexact HO
    iexact AS12
  iintro ⟨HO, ZS12, Q12⟩
  ihave Ho := (joinO m c) $$ [Q00 Q01 Q02 R00 R01 R02]
  · isplitl [Q00]; · iexact Q00
    isplitl [Q01]; · iexact Q01
    isplitl [Q02]; · iexact Q02
    isplitl [R00]; · iexact R00
    isplitl [R01]; · iexact R01
    iexact R02
  ihave Hs := (joinS m c) $$ [Q10 Q11 Q12 R10 R11 R12]
  · isplitl [Q10]; · iexact Q10
    isplitl [Q11]; · iexact Q11
    isplitl [Q12]; · iexact Q12
    isplitl [R10]; · iexact R10
    isplitl [R11]; · iexact R11
    iexact R12
  -- the result
  iapply (wp_load 𝒱₀ (c : Thread nD τ) none Set.univ (m := sM) (Finset.subset_univ _)) $$ Hs; iintro Hs
  iapply (wp_load 𝒱₀ (c : Thread nD τ) none Set.univ (m := sM) (Finset.subset_univ _)) $$ Hs; iintro Hs
  iapply (wp_load 𝒱₀ (c : Thread nD τ) none Set.univ (m := oM) (Finset.subset_univ _)) $$ Ho; iintro Ho
  iapply (wp_load 𝒱₀ (c : Thread nD τ) none Set.univ (m := a4) (View.setOn_subset_set _ _)) $$ H4; iintro H4
  iapply (wp_store 𝒱₀ (c : Thread nD τ) none Set.univ (m := a4) (r := rRes) (Mk := Finset.univ) (View.set_slice_subset _ _)) $$ H4; iintro H4
  rw [wp_ret]; imodintro
  iapply Hk
  isplitl [H1 H2 H3 H4]
  · isplitl [H1]
    · iexists g1; isplitr; · (ipureintro; exact e1)
      iexact H1
    isplitl [H2]
    · iexists g2; isplitr; · (ipureintro; exact e2)
      iexact H2
    isplitl [H3]
    · iexists g3; isplitr; · (ipureintro; exact e3)
      iexact H3
    iexists _; isplitr
    · ipureintro; exact read_result a4 g4 (outAt m c)
    iexact H4
  isplitr [HO]
  · unfold done
    isplitl [Ho]; · iexists _; iexact Ho
    isplitl [Hs]; · iexists _; iexact Hs
    iapply (Entails.of_eq (bigSep_cells _).symm)
    isplitl [ZB]; · iexact ZB
    isplitl [ZS00]; · iexact ZS00
    isplitl [ZS01]; · iexact ZS01
    isplitl [ZS02]; · iexact ZS02
    isplitl [ZR00]; · iexact ZR00
    isplitl [ZR01]; · iexact ZR01
    isplitl [ZR02]; · iexact ZR02
    isplitl [ZS10]; · iexact ZS10
    isplitl [ZS11]; · iexact ZS11
    isplitl [ZS12]; · iexact ZS12
    isplitl [ZR10]; · iexact ZR10
    isplitl [ZR11]; · iexact ZR11
    iexact ZR12
  iexact HO

end Run

end Cert.Flash

end
-- ==== Proof.Obligation.lean ====
/-
The pipeline's data on a device, and the body obligation at every point.
-/
module

public import proofs.«01_k».proof.Proof.Last

@[expose] public section

noncomputable section

namespace Cert.Flash

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)

/-- Between the points: the exchange not begun and the first rows in place; after the last, everything done. -/
def between (c : Dev nD) (n : ℕ) : sProp 𝕄 := if n = 16 then done c else iprop(start m c ∗ filled m c n)

theorem between_last (c : Dev nD) : between m c 16 = done c := if_pos rfl
theorem between_of_ne (c : Dev nD) {n : ℕ} (h : n ≠ 16) : between m c n = iprop(start m c ∗ filled m c n) := if_neg h

/-- What is owed between the points. -/
def owedAt (c : Dev nD) (n : ℕ) : CellTallies nD τ sig Unit := if n = 16 then 0 else O₀ c

def dats (_ : Fin 1) (c : Dev nD) : Dat τ (Elt F) Unit ℕ UU ℕ cfg0 c where
  A w := m ((cfg0.win w).arr.view.loc (c : Thread nD τ))
  after w t := match w with
    | ⟨0, _⟩ => iblk m c 0 t
    | ⟨1, _⟩ => iblk m c 1 t
    | ⟨2, _⟩ => iblk m c 2 t
    | ⟨3, _⟩ => outAt m c
  Φ t := between m c t.val
  q _ := fullShare
  owed t := owedAt c t.val

theorem owesAt_eq (c : Dev nD) (s : Fin (cfg0.N + 1)) : ((dats m 0 c).owesAt () s : sProp 𝕄) ⊣⊢ owesOnly c (owedAt c s.val) := by
  unfold Dat.owesAt Pipeline.owesWithin owesOnly
  constructor
  · iintro ⟨%W, %hW, H⟩
    iexists W; iexact H
  · iintro ⟨%W, H⟩
    iexists W
    isplitr; · ipureintro; exact fun _ _ => Or.inl trivial
    iexact H

theorem before_arg0 (c : Dev nD) (t : Fin cfg0.N) (d) : (dats m 0 c).before 0 t d = iblk m c 0 t :=
  ((dats m 0 c).before_in_eq_fetched 0 rfl (fun _ => rfl) (fun _ _ _ => rfl) (fun t => rfl) t d).trans rfl
theorem before_arg1 (c : Dev nD) (t : Fin cfg0.N) (d) : (dats m 0 c).before 1 t d = iblk m c 1 t :=
  ((dats m 0 c).before_in_eq_fetched 1 rfl (fun _ => rfl) (fun _ _ _ => rfl) (fun t => rfl) t d).trans rfl
theorem before_arg2 (c : Dev nD) (t : Fin cfg0.N) (d) : (dats m 0 c).before 2 t d = iblk m c 2 t :=
  ((dats m 0 c).before_in_eq_fetched 2 rfl (fun _ => rfl) (fun _ _ _ => rfl) (fun t => rfl) t d).trans rfl

theorem body_row (t : Fin cfg0.N) : defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) 𝒱₀ () Set.univ := fun t => by
  rw [bigSep_W0, bigSep_W0, body_row]
  have hN : t.val < 16 := Nat.lt_of_lt_of_eq t.isLt N_0
  show iprop(between m c t.val ∗ (dats m 0 c).owesAt () t.castSucc ∗ (∃ d, owns (c : Thread nD τ) (st0_0 t) fullShare ((dats m 0 c).before 0 t d))
      ∗ (∃ d, owns (c : Thread nD τ) (st0_1 t) fullShare ((dats m 0 c).before 1 t d)) ∗ (∃ d, owns (c : Thread nD τ) (st0_2 t) fullShare ((dats m 0 c).before 2 t d))
      ∗ (∃ d, owns (c : Thread nD τ) (st0_3 t) fullShare ((dats m 0 c).before 3 t d)))
    ⊢ wp frame (wpE (defs₀ (F := F)) 𝒱₀ c none) Set.univ (bodyAt0 t) (fun _ =>
      iprop(between m c (t.val + 1) ∗ (dats m 0 c).owesAt () t.succ ∗ owns (c : Thread nD τ) (st0_0 t) fullShare (iblk m c 0 t)
      ∗ owns (c : Thread nD τ) (st0_1 t) fullShare (iblk m c 1 t) ∗ owns (c : Thread nD τ) (st0_2 t) fullShare (iblk m c 2 t)
      ∗ (match !(k0_cond1 (grid0.coords t) == 1#1) with
          | true => match (cfg0.win 3).flush t with
            | false => iprop(∃ d, owns (c : Thread nD τ) (st0_3 t) fullShare ((dats m 0 c).before 3 t d))
            | true => owns (c : Thread nD τ) (st0_3 t) fullShare (outAt m c)
          | false => owns (c : Thread nD τ) (st0_3 t) fullShare (outAt m c))))
  simp only [before_arg0, before_arg1, before_arg2]
  by_cases ht : k0_cond1 (grid0.coords t) = 1#1
  · have ht' : t.val = 15 := (cond_last t).mp ht
    rw [show (!(k0_cond1 (grid0.coords t) == 1#1)) = false by rw [ht]; rfl]
    rw [show t.val + 1 = 16 by rw [ht'], between_last, between_of_ne m c (by rw [ht']; decide), ht']
    unfold start
    iintro ⟨⟨⟨⟨%K, #HR, Hlin⟩, Hcr, Hlev⟩, Hf⟩, HO, ⟨%d0, H1⟩, ⟨%d1, H2⟩, ⟨%d2, H3⟩, ⟨%d3, H4⟩⟩
    iapply (body_last m K c t (st0_0 t) _ (st0_1 t) _ (st0_2 t) _ (st0_3 t) _ ((dats m 0 c).before 3 t d3) ht _)
    ihave HO := ((owesAt_eq m c t.castSucc).1) $$ HO
    unfold winsAt lastPre
    isplitl [H1 H2 H3 H4]
    · isplitl [H1]; · iexact H1
      isplitl [H2]; · iexact H2
      isplitl [H3]; · iexact H3
      iexact H4
    isplitr []
    · isplitl [Hf]; · iexact Hf
      isplitr; · iexact HR
      isplitl [Hlev]; · iexact Hlev
      isplitl [HO]
      · rw [show owedAt c (Fin.castSucc t).val = due c 9 from if_neg (by show ¬ t.val = 16; omega)]
        iexact HO
      isplitl [Hcr] <;> iassumption
    iintro ⟨⟨H1, H2, H3, H4⟩, Hd, HO⟩
    isplitl [Hd]; · iexact Hd
    isplitl [HO]
    · iapply ((owesAt_eq m c t.succ).2)
      rw [show owedAt c (Fin.succ t).val = 0 from if_pos (by show t.val + 1 = 16; omega)]
      iexact HO
    isplitl [H1]; · iexact H1
    isplitl [H2]; · iexact H2
    isplitl [H3]; · iexact H3
    iexact H4
  · have ht' : t.val ≠ 15 := fun h => ht ((cond_last t).mpr h)
    rw [show (!(k0_cond1 (grid0.coords t) == 1#1)) = true by rw [beq_false_of_ne ht]; rfl]
    rw [show (cfg0.win 3).flush t = false from Bool.eq_false_iff.mpr fun h => ht' (by have := (flush0_3 t).mp h; omega)]
    rw [between_of_ne m c (show t.val ≠ 16 by omega), between_of_ne m c (show t.val + 1 ≠ 16 by omega)]
    iintro ⟨⟨Hst, Hf⟩, HO, ⟨%d0, H1⟩, ⟨%d1, H2⟩, ⟨%d2, H3⟩, ⟨%d3, H4⟩⟩
    iapply (body_mid m c t (st0_0 t) _ (st0_1 t) _ (st0_2 t) _ (st0_3 t) _ ((dats m 0 c).before 3 t d3) ht _)
    unfold winsAt
    isplitl [H1 H2 H3 H4]
    · isplitl [H1]; · iexact H1
      isplitl [H2]; · iexact H2
      isplitl [H3]; · iexact H3
      iexact H4
    isplitl [Hf]; · iexact Hf
    iintro ⟨⟨H1, H2, H3, H4⟩, Hf⟩
    isplitl [Hst Hf]
    · isplitl [Hst] <;> iassumption
    isplitl [HO]
    · ihave HO := ((owesAt_eq m c t.castSucc).1) $$ HO
      iapply ((owesAt_eq m c t.succ).2)
      rw [show owedAt c (Fin.castSucc t).val = O₀ c from if_neg (by show ¬ t.val = 16; omega),
        show owedAt c (Fin.succ t).val = O₀ c from if_neg (by show ¬ t.val + 1 = 16; omega)]
      iexact HO
    isplitl [H1]; · iexact H1
    isplitl [H2]; · iexact H2
    isplitl [H3]; · iexact H3
    iexists d3; iexact H4

end Cert.Flash

end
-- ==== Proof.Launch.lean ====
/-
The launch: the exchange's ghost state set up on every device at once, and the kernel's run.
-/
module

public import proofs.«01_k».proof.Proof.Obligation
public import Idealize.ShloMosaic.Lib.Quiescent
public import Idealize.ShloMosaic.Lib.Pipeline.CollectiveSegs

@[expose] public section

noncomputable section

namespace Cert.Flash

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## The cells and the tokens at launch -/

/-- The kernel's own twelve semaphores: the exchange's cells but the barrier. -/
abbrev osem : Fin 12 → SemLoc sig
  | 0 => csem (some (false, false, 0)) | 1 => csem (some (false, false, 1)) | 2 => csem (some (false, false, 2))
  | 3 => csem (some (true, false, 0)) | 4 => csem (some (true, false, 1)) | 5 => csem (some (true, false, 2))
  | 6 => csem (some (false, true, 0)) | 7 => csem (some (false, true, 1)) | 8 => csem (some (false, true, 2))
  | 9 => csem (some (true, true, 0)) | 10 => csem (some (true, true, 1)) | 11 => csem (some (true, true, 2))

theorem own_facts : Pipeline.OwnSemFacts cfg0.spec osem := by decide

theorem share_full (c : Dev nD) (w : Fin cfg0.W) : (dats m 0 c).share w = fullShare := by unfold Dat.share; split <;> rfl

def cellSet : Finset (GSem nD τ sig) := Finset.univ.map ⟨kcell, kcell_injective⟩

/-- The cell and the duty of a device's own token `i` of index `j`. -/
def tokKey : Fin 3 × Fin 5 → Cell × Duty
  | (j, 0) => (none, j)
  | (j, 1) => (some (true, false, j), 0)
  | (j, 2) => (some (true, true, j), 0)
  | (j, 3) => (some (false, false, j), 0)
  | (j, 4) => (some (false, true, j), 0)
theorem tokKey_injective : Function.Injective tokKey := by decide +kernel

def tokAt (x : (Dev nD × Fin 3) × Fin 5) : GSem nD τ sig × ℕ × Duty :=
  (kcell (x.1.1, (tokKey (x.1.2, x.2)).1), 0, (tokKey (x.1.2, x.2)).2)
theorem tokAt_injective : Function.Injective tokAt := by
  rintro ⟨⟨c, j⟩, i⟩ ⟨⟨c', j'⟩, i'⟩ h
  have h1 := kcell_injective (congrArg Prod.fst h)
  have h2 : (tokKey (j, i)).2 = (tokKey (j', i')).2 := congrArg (fun x : GSem nD τ sig × ℕ × Duty => x.2.2) h
  have h3 := tokKey_injective (Prod.ext (congrArg Prod.snd h1) h2)
  have h4 : c = c' := congrArg Prod.fst h1
  rw [h4, show j = j' from congrArg Prod.fst h3, show i = i' from congrArg Prod.snd h3]
def tokSet : Finset (GSem nD τ sig × ℕ × Duty) := Finset.univ.map ⟨tokAt, tokAt_injective⟩

def u₀ : UU := (initOf (Pipeline.cells cfgs cellOf_inj) (Pipeline.launchToks cfgs cellOf_inj), initOf cellSet tokSet)

/-- The tokens of device `c`'s own cells of index `j`. -/
def ownTok (c : Dev nD) (j : Fin 3) : sProp 𝕄 :=
  iprop(dutyTok EX (kcell (c, none)) 0 j
    ∗ dutyTok EX (kcell (c, some (true, false, j))) 0 0 ∗ dutyTok EX (kcell (c, some (true, true, j))) 0 0
    ∗ dutyTok EX (kcell (c, some (false, false, j))) 0 0 ∗ dutyTok EX (kcell (c, some (false, true, j))) 0 0)

/-- A device's share of the launch: its cells' round states, its positions, its own tokens. -/
def G (c : Dev nD) : sProp 𝕄 :=
  iprop((bigSep Finset.univ fun k : Cell => roundState EX (sched m) (kcell (c, k)) 0)
    ∗ ((bigSep Finset.univ fun k : Cell => atPos EX (kcell (c, k)) 0 ∅ 0) ∗ bigSep Finset.univ fun k : Cell => reached EX (kcell (c, k)) 0)
    ∗ bigSep Finset.univ fun j => ownTok c j)

def G' (c : Dev nD) : sProp 𝕄 := iprop(∃ K, records m K ∗ linear c)

omit [FloatOps F] in
theorem over_cells (Φ : GSem nD τ sig → sProp 𝕄) : bigSep cellSet Φ = bigSep Finset.univ fun c : Dev nD => bigSep Finset.univ fun k : Cell => Φ (kcell (c, k)) := by
  unfold cellSet; rw [bigSep_map, bigSep_univ_prod]; rfl
omit [FloatOps F] in
theorem over_toks : bigSep tokSet (fun x => (dutyTok EX x.1 x.2.1 x.2.2 : sProp 𝕄)) = bigSep Finset.univ fun c : Dev nD => bigSep Finset.univ fun j => ownTok c j := by
  unfold tokSet
  rw [bigSep_map, bigSep_univ_prod, bigSep_univ_prod]
  refine bigSep_congr fun c _ => bigSep_congr fun j _ => ?_
  rw [bigSep_univ_eq_bigSepL [(0 : Fin 5), 1, 2, 3, 4] (by decide) (by decide)]
  rfl

theorem fund_cells : BI.own (EX (initOf cellSet tokSet)) ⊢ (|==> bigSep Finset.univ (G m) : sProp 𝕄) := by
  iintro H
  imod (Rounds.fund EX (sched m) cellSet tokSet) $$ H with ⟨Hst, Hr, Hat, Htok⟩
  imodintro
  ihave Hst := (Entails.of_eq (over_cells fun g => roundState EX (sched m) g 0)) $$ Hst
  ihave Hat := (Entails.of_eq (over_cells fun g => atPos EX g 0 ∅ 0)) $$ Hat
  ihave Hr := (Entails.of_eq (over_cells fun g => reached EX g 0)) $$ Hr
  ihave Htok := (Entails.of_eq (over_toks (F := F))) $$ Htok
  unfold G
  simp only [bigSep_sep']
  isplitl [Hst]; · iexact Hst
  isplitl [Hat Hr]
  · isplitl [Hat]; · iexact Hat
    iexact Hr
  iexact Htok

/-! ## The semaphores at launch and at the end -/

omit [FloatOps F] in
theorem sems_cells (c : Dev nD) :
    iprop(unscopedSems0 c ∗ Pipeline.ownSems0 (Ix := Unit) (Name := ℕ) (U := UU) (Lvl := ℕ) (Val := Elt F) (τ := τ) osem c)
      = (bigSep Finset.univ fun k : Cell => semVal (kcell (c, k)) 0 : sProp 𝕄) := by
  rw [bigSep_cell, Pipeline.ownSems0_eq_of_list c osem [0, 1, 2, 3, 4, 5, 6, 7, 8, 9, 10, 11] (by decide) (by decide)]
  unfold unscopedSems0
  rw [bigSep_eq_bigSepL_of_eq [SemLoc.reg barS] (by decide) (by decide)]
  rfl

/-! ## Invariants, and the tokens handed around -/

theorem core_alloc (c : Dev nD) :
    iprop(Pipeline.ownSems0 (Ix := Unit) (Name := ℕ) (U := UU) (Lvl := ℕ) (Val := Elt F) (τ := τ) osem c ∗ unscopedSems0 c ∗ G m c)
      ⊢ |={Set.univ}=> iprop((bigSep Finset.univ fun k : Cell => iprop(∃ κ : ℕ, cellInv EX (sched m) κ (kcell (c, k))))
          ∗ ((bigSep Finset.univ fun k : Cell => atPos EX (kcell (c, k)) 0 ∅ 0) ∗ bigSep Finset.univ fun k : Cell => reached EX (kcell (c, k)) 0)
          ∗ bigSep Finset.univ fun j => ownTok c j) := by
  have hopen : iprop((bigSep Finset.univ fun k : Cell => semVal (kcell (c, k)) 0) ∗ bigSep Finset.univ fun k : Cell => roundState EX (sched m) (kcell (c, k)) 0)
      ⊢ (|={Set.univ}=> bigSep Finset.univ fun k : Cell => iprop(∃ κ : ℕ, cellInv EX (sched m) κ (kcell (c, k))) : sProp 𝕄) := by
    rw [← bigSep_sep']
    exact (bigSep_mono fun k _ => (Rounds.body_intro EX (sched m) (kcell (c, k))).trans inv_alloc).trans (bigSep_fupd _ _)
  unfold G
  iintro ⟨Hos, Hus, Hst, Hat, Htok⟩
  ihave Hv := (Entails.of_eq (sems_cells (F := F) c)) $$ [Hos Hus]
  · isplitl [Hus]; · iexact Hus
    iexact Hos
  imod hopen $$ [Hv Hst] with Hinv
  · isplitl [Hv]; · iexact Hv
    iexact Hst
  imodintro
  isplitl [Hinv]; · iexact Hinv
  isplitl [Hat]; · iexact Hat
  iexact Htok

/-- From a device and an index to the partner of that index, at the same index. -/
def shift : Dev nD × Fin 3 ≃ Dev nD × Fin 3 where
  toFun x := (partner x.2 x.1, x.2)
  invFun x := (partner x.2.rev x.1, x.2)
  left_inv x := Prod.ext (partner_rev x.2 x.1) rfl
  right_inv x := Prod.ext (partner_rev' x.2 x.1) rfl

/-- From a device and an index to the partner of that index, at the index that leads back. -/
def swap : Dev nD × Fin 3 ≃ Dev nD × Fin 3 where
  toFun x := (partner x.2 x.1, x.2.rev)
  invFun x := (partner x.2 x.1, x.2.rev)
  left_inv x := Prod.ext (partner_rev x.2 x.1) (Fin.rev_rev x.2)
  right_inv x := Prod.ext (partner_rev x.2 x.1) (Fin.rev_rev x.2)

omit [FloatOps F] in
theorem toks_around : (bigSep Finset.univ fun c : Dev nD => bigSep Finset.univ fun j => (ownTok c j : sProp 𝕄))
    ⊢ bigSep Finset.univ fun c : Dev nD => bigSep Finset.univ fun j => payTok c j := by
  rw [← bigSep_univ_prod (fun x : Dev nD × Fin 3 => (ownTok x.1 x.2 : sProp 𝕄)), ← bigSep_univ_prod (fun x : Dev nD × Fin 3 => (payTok x.1 x.2 : sProp 𝕄))]
  unfold ownTok payTok
  rw [bigSep_sep', bigSep_sep', bigSep_sep', bigSep_sep', bigSep_sep', bigSep_sep', bigSep_sep', bigSep_sep',
    bigSep_univ_equiv shift (fun x : Dev nD × Fin 3 => (dutyTok EX (kcell (x.1, none)) 0 x.2 : sProp 𝕄)),
    bigSep_univ_equiv swap (fun x : Dev nD × Fin 3 => (dutyTok EX (kcell (x.1, some (true, false, x.2))) 0 0 : sProp 𝕄)),
    bigSep_univ_equiv swap (fun x : Dev nD × Fin 3 => (dutyTok EX (kcell (x.1, some (true, true, x.2))) 0 0 : sProp 𝕄))]
  iintro H
  iexact H

omit [FloatOps F] in
theorem with_records {I : Type} [DecidableEq I] {S : Finset I} {R : sProp 𝕄} [BI.Persistent R] {Φ Ψ : I → sProp 𝕄}
    (h : ∀ i ∈ S, iprop(R ∗ Φ i) ⊢ Ψ i) : iprop(R ∗ bigSep S Φ) ⊢ bigSep S Ψ :=
  (sep_mono_left (BI.bigSep_of_persistent S R)).trans (by rw [← bigSep_sep']; exact bigSep_mono h)

theorem regroup :
    (bigSep Finset.univ fun c : Dev nD => iprop((bigSep Finset.univ fun k : Cell => iprop(∃ κ : ℕ, cellInv EX (sched m) κ (kcell (c, k))))
          ∗ ((bigSep Finset.univ fun k : Cell => atPos EX (kcell (c, k)) 0 ∅ 0) ∗ bigSep Finset.univ fun k : Cell => reached EX (kcell (c, k)) 0)
          ∗ bigSep Finset.univ fun j => ownTok c j) : sProp 𝕄)
      ⊢ bigSep Finset.univ (G' m) := by
  rw [bigSep_sep', bigSep_sep', bigSep_sep', ← bigSep_univ_prod (fun ck : Dev nD × Cell => iprop(∃ κ : ℕ, cellInv EX (sched m) κ (kcell ck))),
    ← bigSep_univ_prod (fun ck : Dev nD × Cell => (reached EX (kcell ck) 0 : sProp 𝕄))]
  iintro ⟨HI, ⟨Hat, #HR⟩, Htok⟩
  ihave HK := (BI.bigSep_exists_pi Finset.univ (fun (ck : Dev nD × Cell) (κ : ℕ) => (cellInv EX (sched m) κ (kcell ck) : sProp 𝕄))) $$ HI
  icases HK with ⟨%K, #HI⟩
  ihave Htok := (toks_around (F := F)) $$ Htok
  iapply (with_records (R := records m K) (Φ := linear) (Ψ := G' m) fun c _ => by
    unfold G'; iintro H; iexists K; iexact H)
  isplitr
  · unfold records; isplitl; · iexact HI
    iexact HR
  · unfold linear
    iapply (Entails.of_eq (bigSep_sep' Finset.univ (fun c : Dev nD => bigSep Finset.univ fun k : Cell => (atPos EX (kcell (c, k)) 0 ∅ 0 : sProp 𝕄))
      (fun c => bigSep Finset.univ fun j => payTok c j)).symm)
    isplitl [Hat]; · iexact Hat
    iexact Htok

theorem glob : (bigSep Finset.univ fun c => iprop(Pipeline.ownSems0 (Ix := Unit) (Name := ℕ) (U := UU) (Lvl := ℕ) (Val := Elt F) (τ := τ) osem c ∗ unscopedSems0 c ∗ G m c) : sProp 𝕄)
    ⊢ |={Set.univ}=> bigSep Finset.univ (G' m) :=
  ((bigSep_mono fun c _ => core_alloc m c).trans (bigSep_fupd _ _)).trans (BI.fupd_mono (regroup m))

/-! ## The credits in store -/

theorem owing_apply (l : List (GSem nD τ sig × ℕ)) (O : CellTallies nD τ sig Unit) (g : GSem nD τ sig) :
    l.foldl (fun O e => O + tallyAt e.1 () e.2) O g () = O g () + (l.map fun e => if g = e.1 then e.2 else 0).sum := by
  induction l generalizing O with
  | nil => exact (Nat.add_zero _).symm
  | cons e l ih =>
    rw [List.foldl_cons, ih, Pi.add_apply, Finsupp.add_apply, tallyAt_apply, List.map_cons, List.sum_cons, Nat.add_assoc]
    congr 2
    by_cases h : g = e.1
    · rw [if_pos ⟨h, rfl⟩, if_pos h]
    · rw [if_neg fun h' => h h'.1, if_neg h]

/-- Over the devices, an entry of the dues at their partners' cell `k'` comes to one device's. -/
theorem sum_due (j : Fin 3) (c : Dev nD) (k k' : Cell) (n : ℕ) :
    ∑ d : Dev nD, (if kcell (c, k) = kcell (partner j d, k') then n else 0) = if k = k' then n else 0 := by
  refine (Equiv.sum_comp (turn j) (fun e => if kcell (c, k) = kcell (e, k') then n else 0)).trans ?_
  by_cases h : k = k'
  · subst h
    rw [if_pos rfl, Finset.sum_eq_single c (fun d _ hd => if_neg fun h => hd (congrArg Prod.fst (kcell_injective h)).symm) (fun h => absurd (Finset.mem_univ c) h), if_pos rfl]
  · rw [if_neg h]
    exact Finset.sum_eq_zero fun d _ => if_neg fun h' => h (congrArg Prod.snd (kcell_injective h'))

/-- What all devices together owe device `c`'s cell `k`. -/
def inStore : Cell → ℕ
  | none => 3
  | some (true, b, _) => credits b
  | some (false, _, _) => 0

theorem sum_owed (c : Dev nD) (k : Cell) : ∑ d : Dev nD, O₀ d (kcell (c, k)) () = inStore k := by
  have h (d : Dev nD) : O₀ d (kcell (c, k)) () = ((dues d).map fun e => if kcell (c, k) = e.1 then e.2 else 0).sum :=
    (owing_apply (dues d) 0 _).trans (Nat.zero_add _)
  rw [Finset.sum_congr rfl fun d _ => h d]
  simp only [dues, List.map_cons, List.map_nil, List.sum_cons, List.sum_nil, Finset.sum_add_distrib, sum_due, Finset.sum_const_zero]
  rcases k with _ | ⟨_ | _, _ | _, k⟩
  · rfl
  · fin_cases k <;> rfl
  · fin_cases k <;> rfl
  · fin_cases k <;> simp [inStore]
  · fin_cases k <;> simp [inStore]

theorem launch_credit (c : Dev nD) (k : Cell) :
    tallyOn (kcell (c, k)) (launchCredit (Pipeline.owing O₀) 0 (kcell (c, k))) = (tallyAt (kcell (c, k)) () (inStore k) : CellTallies nD τ sig Unit) := by
  unfold tallyAt
  refine congrArg _ (Finsupp.ext fun u => ?_)
  cases u
  rw [Pipeline.launchCredit_owing, Finsupp.single_eq_same, sum_owed]

theorem creds_intro (c : Dev nD) : (Pipeline.launchCred O₀ c : sProp 𝕄) ⊢ creds c := by
  have h : (Pipeline.launchCred O₀ c : sProp 𝕄) ⊢ bigSep Finset.univ fun k : Cell => cred (tallyAt (kcell (c, k)) () (inStore k)) := by
    unfold Pipeline.launchCred
    refine (bigSep_subset (Finset.subset_univ (Finset.univ.map ⟨csem, csem_injective⟩))).trans ?_
    rw [bigSep_map]
    exact Entails.of_eq (bigSep_congr fun k _ => congrArg cred (launch_credit c k))
  refine h.trans ?_
  rw [bigSep_cells]
  unfold creds
  rw [bigSep_fin3]
  iintro ⟨HB, -, -, -, H00, H01, H02, -, -, -, H10, H11, H12⟩
  isplitl [HB]; · iexact HB
  isplitl [H00 H10]
  · isplitl [H00]; · iexact H00
    iexact H10
  isplitl [H01 H11]
  · isplitl [H01]; · iexact H01
    iexact H11
  isplitl [H02]; · iexact H02
  iexact H12

/-! ## The run -/

theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' m c)
      ⊢ |={Set.univ}=> iprop(start m c ∗ emp) := by
  iintro ⟨-, Hlev, Hcr, -, HG⟩
  ihave Hc := (creds_intro (F := F) c) $$ Hcr
  imodintro
  unfold start G'
  isplitl
  · isplitl [HG]; · iexact HG
    isplitl [Hc]; · iexact Hc
    iexact Hlev
  · iempintro

theorem enter (c : Dev nD) :
    iprop(start m c ∗ Pipeline.prefHeld Pipeline.Prefetch.none c (fun _ => fullShare.right) (fun k => k.elim0) ∗ Pipeline.scopedRest cfg0.spec c)
      ⊢ (dats m 0 c).Φ 0 := by
  rw [show (dats m 0 c).Φ 0 = iprop(start m c ∗ filled m c 0) from (show (dats m 0 c).Φ 0 = between m c 0 from rfl).trans (between_of_ne m c (by decide)), scopedRest0_eq]
  unfold filled
  iintro ⟨Hs, -, ⟨%f, Hf⟩, ⟨%g, Hg⟩⟩
  isplitl [Hs]; · iexact Hs
  isplitl [Hf]
  · iexists f; isplitr; · (ipureintro; exact fun x _ h => absurd h (Nat.not_lt_zero _))
    iexact Hf
  · iexists g; isplitr; · (ipureintro; exact fun x _ h => absurd h (Nat.not_lt_zero _))
    iexact Hg

theorem leave (c : Dev nD) :
    (dats m 0 c).Φ (Fin.last cfg0.N) ⊢ iprop(unscopedSems0 c ∗ Pipeline.ownSems0 osem c ∗ Pipeline.scopedRest cfg0.spec c) := by
  rw [show (dats m 0 c).Φ (Fin.last cfg0.N) = done c from (congrArg (between m c) N_0).trans (between_last m c), scopedRest0_eq]
  unfold done
  rw [← sems_cells]
  iintro ⟨Hf, Hg, Hu, Ho⟩
  isplitl [Hu]; · iexact Hu
  isplitl [Ho]; · iexact Ho
  isplitl [Hf]; · iexact Hf
  iexact Hg

theorem waits (c : Dev nD) : (levAts L lv : sProp 𝕄) ⊢ Pipeline.cellsWaits cfgs (dats m) () 0 c :=
  Pipeline.cellsWaits_intro cfgs (dats m) () 0 c fun w s t =>
    mayWait_stage c _ (by fin_cases w <;> fin_cases s <;> decide +kernel) _ (by
      show owedAt c t.val = O₀ c ∨ owedAt c t.val = 0
      unfold owedAt
      split
      · exact Or.inr rfl
      · exact Or.inl rfl)

/-- Every window's array as the pipeline leaves it. -/
def Final : PUnit × MemSt nD τ sig (Elt F) → Prop := fun r =>
  ∀ c : Dev nD, ∀ w : Fin cfg0.W, r.2.mem ((cfg0.win w).arr.view.loc (c : Thread nD τ)) = (dats m 0 c).arrAt w cfg0.N

set_option maxRecDepth 8000 in
/-- Every fair execution of the kernel on the thirty-two devices ends, the arrays as the pipeline leaves them and every
    counter at zero. -/
theorem run_kernel : θ_run defs (onTc (τ := τ) (main (F := F))) ⟨m, fun _ => 0, ρ⟩ (fun r => Final m r ∧ r.2.sem = fun _ => 0) :=
  Pipeline.θ_run_region_owing_glob_pf (fun p => (cfgs p).toPCfg) (fun p => (cfgs p).toPCfg_adm) (dats m) () cellOf_inj (0 : Fin 1)
    winFacts0.to₀ own_facts (Pipeline.PreFacts.none _) EP defs₀ 𝒱₀ m ρ main
    (hmain := fun _ => rfl)
    (hbody := body_obligation m) (hne := fun w => by fin_cases w <;> exact Nat.succ_pos _) (harr := arr_whole0) (hstage := stage_whole0) (hshare := share_full m)
    (hdistinct := winFacts0.arr_inj)
    (O₀ := O₀) (howed₀ := fun _ => rfl) (howedN := fun c => (congrArg (owedAt c) N_0).trans (if_pos rfl))
    (L := L) (lv := lv) (hL := L_of_ne) (hwaits := waits m)
    (G := G m) (G' := G' m) (u₀ := u₀)
    (hu₀ := by
      unfold u₀
      iintro Hu
      ihave H := (ownU_pair _ _) $$ Hu
      icases H with ⟨HP, HX⟩
      imod (fund_cells m) $$ HX with HG
      imodintro
      isplitl [HP] <;> iassumption)
    (hglob := glob m)
    (hA := fun _ _ => rfl) (hpf := fun _ k => k.elim0)
    (X := start m) (Y := fun c => unscopedSems0 c) (Z := fun _ => iprop(emp))
    (hX := start_intro m ρ) (hin := enter m) (hout := leave m)
    (QY := fun c s => ∀ sm : SemLoc sig, sm.isScoped .tc = false → s.sem ((c.tc : Thread nD τ), sm) = 0)
    (hY := fun c s' => by
      iintro ⟨Hu, -, HSI⟩
      iapply (Pipeline.unscopedSems0_read (X := unscopedSems0 c) (c := c) fupd_intro s')
      isplitl [Hu] <;> iassumption)
    (hQ := fun _ h hs => ⟨fun c w => (h c).1 w, sem_eq_zero hs fun c => (h c).2.2⟩)

/-- Every fair execution of the kernel ends with each device's result array at the last point's block, its three arguments
    as they were, and every counter at zero. -/
theorem run_result : θ_run defs (onTc (τ := τ) (main (F := F))) ⟨m, fun _ => 0, ρ⟩ (fun r =>
    (∀ c : Dev nD, r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_v1) = (dats m 0 c).arrAt 3 cfg0.N) ∧ r.2.sem = fun _ => 0) :=
  (θ_run defs _ _).mono (fun _ h => ⟨fun c => ⟨((h.1 c 0)).trans ((dats m 0 c).arrAt_in 0 rfl _), (h.1 c 1).trans ((dats m 0 c).arrAt_in 1 rfl _),
    (h.1 c 2).trans ((dats m 0 c).arrAt_in 2 rfl _), h.1 c 3⟩, h.2⟩) (run_kernel m ρ)

end Cert.Flash

end
-- ==== Proof.Frames.lean ====
/-
The frames: each program runs, its arguments end unchanged, every counter ends at zero.
-/
module

public import proofs.«01_k».proof.Defs
public import proofs.«01_k».proof.Proof.Launch
public import proofs.«01_k».proof.Proof.Gen.Kernel
public import proofs.«01_k».proof.Proof.Gen.ReferenceIdeal.Run

@[expose] public section

noncomputable section

namespace Cert.Flash

open Idealize.ShloMosaic Idealize.ShloMosaic.TcCoe Idealize.SL.Sem

theorem args_kept {F : FTy → Type} [FloatOps F] (m : (ℓ : Loc Cert.KernelIdeal.nD Cert.KernelIdeal.τ Cert.KernelIdeal.sig) → Buf (Elt F) ℓ)
    (g : Dev Cert.KernelIdeal.nD → PrngReg) :
    θ_run (Cert.KernelIdeal.defs (F := F)) (onTc (τ := Cert.KernelIdeal.τ) (Cert.KernelIdeal.main (F := F))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0) :=
  (θ_run _ _ _).mono (fun _ h => ⟨fun c => ⟨(h.1 c).1, (h.1 c).2.1, (h.1 c).2.2.1⟩, h.2⟩) (run_result m g)

/-- The printed kernel and its ideal reading have one text: their bodies agree, -/
theorem bodies_agree {F : FTy → Type} [FloatOps F] : Cert.Kernel.defs₀ (F := F) = Cert.KernelIdeal.defs₀ (F := F) := by
  unfold Cert.Kernel.defs₀ Cert.KernelIdeal.defs₀
  congr 1
  funext l x
  match l, x with
  | 0, (t, s) => rfl

/-- and so do the pipelines around them. -/
theorem programs_agree {F : FTy → Type} [FloatOps F] : Cert.Kernel.defs (F := F) = Cert.KernelIdeal.defs (F := F) :=
  congrArg (Pipeline.defs Cert.KernelIdeal.pcfgs) bodies_agree

theorem kernel_frame : Cert.quiescent_Kernel (hKernel := Cert.Kernel.Gen.facts) := fun m g _ => by
  rw [programs_agree]
  exact args_kept (F := Bits) m g

theorem ideal_frame : Cert.quiescent_KernelIdeal (hKernelIdeal := Cert.KernelIdeal.Gen.facts) := fun m g _ => args_kept (F := Ideal) m g

theorem reference_args (m : (ℓ : Loc Cert.ReferenceIdeal.nD Cert.ReferenceIdeal.τ Cert.ReferenceIdeal.sig) → Buf (Elt Ideal) ℓ)
    (g : Dev Cert.ReferenceIdeal.nD → PrngReg) :
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0) :=
  (θ_run _ _ _).mono (fun r h => ⟨fun c => (h c).2, sem_eq_zero_of_no_sems rfl r.2⟩) (Cert.ReferenceIdeal.Value.run (F := Ideal) m g)

theorem reference_frame : Cert.quiescent_ReferenceIdeal (hReferenceIdeal := Cert.ReferenceIdeal.Gen.facts) := fun m g _ => reference_args m g

instance kernelCondition : Cert.Pre_finite_queries_and_keys_KernelIdeal.Facts := ⟨by decide, by decide⟩
instance referenceCondition : Cert.Pre_finite_queries_and_keys_ReferenceIdeal.Facts := ⟨by decide, by decide⟩

end Cert.Flash

end
-- ==== Proof.Blocks.lean ====
/-
The blocks a device works on, as parts of its own arrays, and the array it leaves.
-/
module

public import proofs.«01_k».proof.Proof.Obligation
public import Idealize.ShloMosaic.Lib.Pipeline.ValueKit
public import Idealize.ShloMosaic.Lib.Pointwise

@[expose] public section

noncomputable section

namespace Cert.Flash

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

variable (m : (ℓ : Loc nD τ sig) → Buf (Elt F) ℓ)

theorem index_query : ∀ t : Fin cfg0.N, win0_0.index t = ![0, 0, 0, 0] := by decide +kernel
theorem index_keys : ∀ t : Fin cfg0.N, win0_1.index t = ![t.val, 0, 0, 0] := by decide +kernel
theorem index_values : ∀ t : Fin cfg0.N, win0_2.index t = ![t.val, 0, 0, 0] := by decide +kernel

/-- The whole query array, at every point. -/
theorem queries_block (c : Dev nD) (t : Fin cfg0.N) (b h : Fin 16) (d : Fin 64) :
    (iblk m c 0 t : S16x1x16x64.Idx → Elt F .bf16) (ix4 b 0 h d) = m ((c : Thread nD τ).loc main_arg0) (ix4 b 0 h d) := by
  blk_simp [iblk]
  refine congrArg (m ((c : Thread nD τ).loc main_arg0)) ?_
  funext a
  refine Fin.ext ?_
  blk_simp [index_query]
  fin_cases a <;> simp

theorem keys_block (c : Dev nD) (b : Fin 16) (k : Fin 1024) (h : Fin 16) (d : Fin 64) :
    (iblk m c 1 (pt b) : S1x1024x16x64.Idx → Elt F .bf16) (ix4 0 k h d) = m ((c : Thread nD τ).loc main_arg1) (ix4 b k h d) := by
  blk_simp [iblk]
  refine congrArg (m ((c : Thread nD τ).loc main_arg1)) ?_
  funext a
  refine Fin.ext ?_
  blk_simp [index_keys]
  fin_cases a <;> simp

theorem values_block (c : Dev nD) (b : Fin 16) (k : Fin 1024) (h : Fin 16) (d : Fin 64) :
    (iblk m c 2 (pt b) : S1x1024x16x64.Idx → Elt F .bf16) (ix4 0 k h d) = m ((c : Thread nD τ).loc main_arg2) (ix4 b k h d) := by
  blk_simp [iblk]
  refine congrArg (m ((c : Thread nD τ).loc main_arg2)) ?_
  funext a
  refine Fin.ext ?_
  blk_simp [index_values]
  fin_cases a <;> simp

theorem query_row (c : Dev nD) (b h : Fin 16) (d : Fin 64) :
    qAt m c (pt b) (ix4 0 0 h d) = m ((c : Thread nD τ).loc main_arg0) (ix4 b 0 h d) := by
  refine Eq.trans ?_ (queries_block m c (pt b) b h d)
  refine View.ld_unit_apply_of _ _ _ _ _ _ fun a => ?_
  refine Eq.trans ?_ (congrArg (· + ((ix4 (0 : Fin 1) (0 : Fin 1) h d : S1x1x16x64.Idx) a : ℕ)) (congrFun (k0_off1_eq (grid0.coords (pt b))) a).symm)
  fin_cases a <;> simp [coords_val]

theorem keys_row (c : Dev nD) (b : Fin 16) (k : Fin 1024) (h : Fin 16) (d : Fin 64) :
    kAt m c (pt b) (ix4 0 k h d) = m ((c : Thread nD τ).loc main_arg1) (ix4 b k h d) := by
  refine Eq.trans ?_ (keys_block m c b k h d)
  refine View.ld_unit_apply_of _ _ _ _ _ _ fun a => ?_
  fin_cases a <;> simp

theorem values_row (c : Dev nD) (b : Fin 16) (k : Fin 1024) (h : Fin 16) (d : Fin 64) :
    vAt m c (pt b) (ix4 0 k h d) = m ((c : Thread nD τ).loc main_arg2) (ix4 b k h d) := by
  refine Eq.trans ?_ (values_block m c b k h d)
  refine View.ld_unit_apply_of _ _ _ _ _ _ fun a => ?_
  fin_cases a <;> simp

theorem maxes_row (c : Dev nD) (r : Fin 4) (b h : Fin 16) :
    maxes m c (ix4 r 0 b h) = maxAt m (mate r c) (pt b) (lane h) := by
  refine (View.ld_unit_apply_of _ _ _ _ _ (ix4 r 0 b h) fun a => ?_).trans ?_
  · fin_cases a <;> simp
  · rfl

theorem sums_row (c : Dev nD) (r : Fin 4) (b h : Fin 16) :
    sums m c (ix4 r 0 b h) = sumAt m (mate r c) (pt b) (lane h) := by
  refine (View.ld_unit_apply_of _ _ _ _ _ (ix4 r 1 b h) fun a => ?_).trans ?_
  · fin_cases a <;> simp
  · rfl

theorem nums_row (c : Dev nD) (r : Fin 4) (b : Fin 16) (j : Fin 1024) :
    nums m c (ix3 r b j) = numAt m (mate r c) (pt b) (col j) := by
  refine (View.ld_unit_apply_of _ _ _ _ _ (ix3 r b j) fun a => ?_).trans ?_
  · fin_cases a <;> simp
  · rfl

/-- The result array ends holding what the last point computed. -/
theorem result_array (c : Dev nD) : (dats m 0 c).arrAt 3 cfg0.N = outAt m c := by
  refine (dats m 0 c).arrAt_eq_of_after_last 3 (pt 15) (by decide +kernel) _ fun j => ?_
  rfl

end Cert.Flash

end
-- ==== Proof.Softmax.lean ====
/-
The mathematics of the exchange, over the extended reals: partial sums taken against partial maxima, rescaled and
added, are the sums of the whole row. The scores are finite; the values they weigh may be anything.
-/
module

public import Idealize.ShloMosaic.PureOps.Ideal
public import Idealize.ShloMosaic.PureOps.Ideal.Laws

@[expose] public section

noncomputable section

namespace Cert.Flash

open Idealize.ShloMosaic

/-- An extended real that is a real number. -/
def Finite (x : EReal) : Prop := ∃ r : ℝ, x = (r : EReal)

theorem Finite.of_ne {x : EReal} (ht : x ≠ ⊤) (hb : x ≠ ⊥) : Finite x := ⟨x.toReal, (EReal.coe_toReal ht hb).symm⟩

theorem Finite.mul {x y : EReal} (hx : Finite x) (hy : Finite y) : Finite (x * y) := by
  obtain ⟨a, rfl⟩ := hx
  obtain ⟨b, rfl⟩ := hy
  exact ⟨a * b, (EReal.coe_mul a b).symm⟩

theorem Finite.sum {ι : Type} (s : Finset ι) (f : ι → EReal) (h : ∀ i, Finite (f i)) : Finite (∑ i ∈ s, f i) := by
  classical
  induction s using Finset.induction_on with
  | empty => exact ⟨0, by simp⟩
  | insert i s hi ih =>
    obtain ⟨a, ha⟩ := h i
    obtain ⟨b, hb⟩ := ih
    exact ⟨a + b, by rw [Finset.sum_insert hi, ha, hb, EReal.coe_add]⟩

/-- The largest of finitely many real numbers, counted from minus infinity, is a real number. -/
theorem Finite.fold_max {ι : Type} (s : Finset ι) (hs : s.Nonempty) (f : ι → EReal) (h : ∀ i, Finite (f i)) :
    Finite (s.fold max ⊥ f) := by
  classical
  induction hs using Finset.Nonempty.cons_induction with
  | singleton i => simpa using h i
  | cons i s hi hs ih =>
    rw [Finset.fold_cons]
    rcases max_choice (f i) (s.fold max ⊥ f) with e | e
    · rw [e]; exact h i
    · rw [e]; exact ih

/-- A real number leaves a sum of extended reals when it is not negative. -/
theorem sum_mul_real {ι : Type} (s : Finset ι) (f : ι → EReal) (a : ℝ) (ha : 0 ≤ a) :
    (∑ i ∈ s, f i) * (a : EReal) = ∑ i ∈ s, f i * (a : EReal) := by
  classical
  induction s using Finset.induction_on with
  | empty => simp
  | insert i s hi ih =>
    rw [Finset.sum_insert hi, Finset.sum_insert hi,
      EReal.right_distrib_of_nonneg_of_ne_top (EReal.coe_nonneg.mpr ha) (EReal.coe_ne_top a), ih]

theorem sum_real {ι : Type} (s : Finset ι) (f : ι → ℝ) : (∑ i ∈ s, (f i : EReal)) = ((∑ i ∈ s, f i : ℝ) : EReal) := by
  classical
  induction s using Finset.induction_on with
  | empty => simp
  | insert i s hi ih => rw [Finset.sum_insert hi, Finset.sum_insert hi, ih, EReal.coe_add]

theorem exp_sub (a b : ℝ) : Ideal.exp ((a : EReal) - (b : EReal)) = ((Real.exp (a - b) : ℝ) : EReal) := by
  rw [← EReal.coe_sub, Ideal.exp_coe]

/-- Partial numerators and normalizers `r` against their own references `p r`, rescaled to a common reference `q`,
    summed and divided: the weights of the whole row, against any reference `n`. -/
theorem combined {ι κ : Type} [Fintype ι] [Fintype κ] [Nonempty ι] [Nonempty κ] (s v : ι → κ → EReal) (p : ι → EReal) (q n : EReal)
    (hs : ∀ r k, Finite (s r k)) (hp : ∀ r, Finite (p r)) (hq : Finite q) (hn : Finite n) :
    Ideal.div (∑ r, (∑ k, v r k * Ideal.exp (s r k - p r)) * Ideal.exp (p r - q))
        (∑ r, (∑ k, Ideal.exp (s r k - p r)) * Ideal.exp (p r - q))
      = ∑ r, ∑ k, v r k * Ideal.div (Ideal.exp (s r k - n)) (∑ r, ∑ k, Ideal.exp (s r k - n)) := by
  choose s' hs using hs
  choose p' hp using hp
  obtain ⟨q', rfl⟩ := hq
  obtain ⟨n', rfl⟩ := hn
  have e1 : ∀ r k, Real.exp (s' r k - p' r) * Real.exp (p' r - q') = Real.exp (s' r k - n') * Real.exp (n' - q') := fun r k => by
    rw [← Real.exp_add, ← Real.exp_add]; congr 1; ring
  have hZ : (0 : ℝ) < ∑ r, ∑ k, Real.exp (s' r k - n') :=
    Finset.sum_pos (fun r _ => Finset.sum_pos (fun k _ => Real.exp_pos _) Finset.univ_nonempty) Finset.univ_nonempty
  have hE : (0 : ℝ) < Real.exp (n' - q') := Real.exp_pos _
  have d1 : (∑ r, (∑ k, Ideal.exp (s r k - p r)) * Ideal.exp (p r - (q' : EReal)))
      = (((∑ r, ∑ k, Real.exp (s' r k - n')) * Real.exp (n' - q') : ℝ) : EReal) := by
    simp only [hs, hp, exp_sub, sum_real, ← EReal.coe_mul, Finset.sum_mul, e1]
  have d2 : (∑ r, ∑ k, Ideal.exp (s r k - (n' : EReal))) = ((∑ r, ∑ k, Real.exp (s' r k - n') : ℝ) : EReal) := by
    simp only [hs, exp_sub, sum_real]
  rw [d1, d2, Ideal.div_coe (mul_pos hZ hE).ne', sum_mul_real _ _ _ (one_div_pos.mpr (mul_pos hZ hE)).le]
  refine Finset.sum_congr rfl fun r _ => ?_
  rw [hp, exp_sub, sum_mul_real _ _ _ (Real.exp_pos _).le, sum_mul_real _ _ _ (one_div_pos.mpr (mul_pos hZ hE)).le]
  refine Finset.sum_congr rfl fun k _ => ?_
  rw [hs, exp_sub, exp_sub, Ideal.div_coe hZ.ne', mul_assoc, mul_assoc, ← EReal.coe_mul, ← EReal.coe_mul, ← EReal.coe_mul, ← mul_assoc, e1]
  congr 2
  field_simp

end Cert.Flash

end
-- ==== Proof.KernelValue.lean ====
/-
What the kernel's payloads hold, index by index, over the extended reals.
-/
module

public import proofs.«01_k».proof.Proof.Contents
public import proofs.«01_k».proof.Proof.Softmax
public import Idealize.ShloMosaic.Lib.Pointwise
public import Idealize.ShloMosaic.Lib.IdealHost

@[expose] public section

noncomputable section

namespace Cert.Flash

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

/-! ## The constants -/

theorem scale_f32 : Ideal.ofBits .f32 0x3E000000#32 = ((1 / 8 : ℝ) : EReal) := by
  simp [Ideal.ofBits, Ideal.ieee, -EReal.coe_mul]; norm_num
theorem scale_bf16 : Ideal.ofBits .bf16 0x3E00#16 = ((1 / 8 : ℝ) : EReal) := by
  simp [Ideal.ofBits, Ideal.ieee, -EReal.coe_mul]; norm_num
theorem lowest_f32 : Ideal.ofBits .f32 0xFF800000#32 = ⊥ := by simp [Ideal.ofBits, Ideal.ieee]
theorem lowest_bf16 : Ideal.ofBits .bf16 0xFF80#16 = ⊥ := by simp [Ideal.ofBits, Ideal.ieee]
theorem infinity_bf16 : Ideal.ofBits .bf16 0x7F80#16 = ⊤ := by simp [Ideal.ofBits, Ideal.ieee]

/-! ## Heads and lanes -/

/-- The head and the lane of column `j`. -/
abbrev headOf (j : Fin 1024) : Fin 16 := ⟨j.val / 64, by omega⟩
abbrev laneOf (j : Fin 1024) : Fin 64 := ⟨j.val % 64, by omega⟩

/-- A choice between two values by the equality of two small numbers. -/
theorem select_numbers {α : Type} (a b : ℕ) (ha : a < 4096) (hb : b < 4096) (x y : α) :
    Scalar.select (IntOp.cmpi CmpIPredicate.eq (BitVec.ofNat 32 a) (BitVec.ofNat 32 b)) x y = if a = b then x else y := by
  by_cases h : a = b
  · subst h
    rw [IntOp.cmpi_eq_self, if_pos rfl]
    rfl
  · rw [if_neg h]
    have hn : BitVec.ofNat 32 a ≠ BitVec.ofNat 32 b := fun e => h (by
      have := congrArg BitVec.toNat e
      simpa [Nat.mod_eq_of_lt (show a < 4294967296 by omega), Nat.mod_eq_of_lt (show b < 4294967296 by omega)] using this)
    have hf : (BitVec.ofNat 32 a == BitVec.ofNat 32 b) = false := beq_false_of_ne hn
    simp only [IntOp.cmpi, hf]
    rfl

/-- A sum over all columns that is zero off head `h` is the sum over the lanes of that head. -/
theorem sum_head (h : Fin 16) (f : Fin 1024 → EReal) :
    (∑ j : Fin 1024, if j.val / 64 = h.val then f j else 0) = ∑ d : Fin 64, f ⟨h.val * 64 + d.val, by omega⟩ := by
  rw [Fin.sum_univ_tiles 16 64 (by norm_num), Finset.sum_eq_single h]
  · refine Finset.sum_congr rfl fun d _ => if_pos ?_
    have := d.isLt
    show (h.val * 64 + d.val) / 64 = h.val
    omega
  · intro b _ hb
    refine Finset.sum_eq_zero fun d _ => if_neg ?_
    have := d.isLt
    have : b.val ≠ h.val := fun e => hb (Fin.ext e)
    show ¬ (b.val * 64 + d.val) / 64 = h.val
    omega
  · exact fun hn => absurd (Finset.mem_univ h) hn

/-- The head's number, as the kernel divides the column's by 64. -/
theorem head_word : ∀ j : Fin 1024, Scalar.select
          (IntOp.andi
            (IntOp.cmpi CmpIPredicate.ne
              (IntOp.subi (BitVec.setWidth 32 (IntOp.cmpi CmpIPredicate.sgt (BitVec.ofNat 32 ↑j) 0#32))
                (BitVec.setWidth 32 (IntOp.cmpi CmpIPredicate.slt (BitVec.ofNat 32 ↑j) 0#32)))
              (Scalar.subi (Scalar.extui (Scalar.cmpi CmpIPredicate.sgt 64#32 0#32))
                (Scalar.extui (Scalar.cmpi CmpIPredicate.slt 64#32 0#32))))
            (IntOp.cmpi CmpIPredicate.ne (IntOp.remsi ArithUnit.vector (BitVec.ofNat 32 ↑j) 64#32) 0#32))
          (IntOp.subi (IntOp.divsi ArithUnit.vector (BitVec.ofNat 32 ↑j) 64#32) 1#32)
          (IntOp.divsi ArithUnit.vector (BitVec.ofNat 32 ↑j) 64#32) = BitVec.ofNat 32 (j.val / 64) := by decide +kernel

/-! ## The blocks as matrices -/

theorem keys_at (K : Vec Ideal S1x1024x16x64 .bf16) (k : Fin 1024) (j : Fin 1024) :
    k0_pay4 K (ix2 k j) = K (ix4 0 k (headOf j) (laneOf j)) := by
  pointwise [k0_pay4]

theorem values_at (V : Vec Ideal S1x1024x16x64 .bf16) (k : Fin 1024) (j : Fin 1024) :
    k0_pay5 V (ix2 k j) = V (ix4 0 k (headOf j) (laneOf j)) := by
  pointwise [k0_pay5]

theorem query_at (Q : Vec Ideal S1x1x16x64 .bf16) (j : Fin 1024) (h : Fin 16) :
    k0_pay6 Q (ix2 j h) = if j.val / 64 = h.val then Q (ix4 0 0 (headOf j) (laneOf j)) else 0 := by
  pointwise [k0_pay6]
  exact select_numbers _ _ (by omega) (by omega) _ _

theorem expander_at (h : Fin 16) (j : Fin 1024) :
    expander (F := Ideal) (ix2 h j) = if j.val / 64 = h.val then 1 else 0 := by
  pointwise [expander, k0_pay10, rows, k0_pay7, k0_pay8, k0_pay9]
  rw [head_word, select_numbers _ _ (by omega) (by omega)]
  simp only [eq_comm]

/-- A row times the expander is the entry of the column's head. -/
theorem expanded (f : Fin 16 → EReal) (j : Fin 1024) :
    (∑ h : Fin 16, f h * expander (F := Ideal) (ix2 h j)) = f (headOf j) := by
  rw [Finset.sum_eq_single (headOf j)]
  · rw [expander_at, if_pos rfl, mul_one]
  · intro h _ hh
    rw [expander_at, if_neg fun e => hh (Fin.ext e.symm), mul_zero]
  · exact fun hn => absurd (Finset.mem_univ _) hn

/-! ## Scores, maxima, normalizers and numerators of one block -/

/-- The score of key `k` for head `h`. -/
def score (Q : Vec Ideal S1x1x16x64 .bf16) (K : Vec Ideal S1x1024x16x64 .bf16) (k : Fin 1024) (h : Fin 16) : EReal :=
  (∑ d : Fin 64, K (ix4 0 k h d) * Q (ix4 0 0 h d)) * ((1 / 8 : ℝ) : EReal)

theorem scores_at (Q : Vec Ideal S1x1x16x64 .bf16) (K : Vec Ideal S1x1024x16x64 .bf16) (k : Fin 1024) (h : Fin 16) :
    k0_pay11 (k0_pay4 K) (k0_pay6 Q) (ix2 k h) = score Q K k h := by
  pointwise [k0_pay11]
  rw [scale_f32]
  unfold score
  congr 1
  simp only [keys_at, query_at, mul_ite, mul_zero]
  rw [sum_head]
  refine Finset.sum_congr rfl fun d _ => ?_
  have e1 : headOf ⟨h.val * 64 + d.val, by omega⟩ = h := Fin.ext (by show (h.val * 64 + d.val) / 64 = h.val; omega)
  have e2 : laneOf ⟨h.val * 64 + d.val, by omega⟩ = d := Fin.ext (by show (h.val * 64 + d.val) % 64 = d.val; omega)
  rw [e1, e2]

/-- The largest score of head `h` in the block. -/
def top (Q : Vec Ideal S1x1x16x64 .bf16) (K : Vec Ideal S1x1024x16x64 .bf16) (h : Fin 16) : EReal :=
  Finset.univ.fold max ⊥ fun k => score Q K k h

theorem tops_at (Q : Vec Ideal S1x1x16x64 .bf16) (K : Vec Ideal S1x1024x16x64 .bf16) (h : Fin 16) :
    k0_pay12 (k0_pay4 K) (k0_pay6 Q) (ix1 h) = top Q K h := by
  pointwise [k0_pay12]
  simp only [lowest_f32, scores_at]
  rfl

theorem weights_at (Q : Vec Ideal S1x1x16x64 .bf16) (K : Vec Ideal S1x1024x16x64 .bf16) (k : Fin 1024) (h : Fin 16) :
    k0_pay13 (k0_pay4 K) (k0_pay6 Q) (ix2 k h) = Ideal.exp (score Q K k h - top Q K h) := by
  pointwise [k0_pay13]
  rw [scores_at, tops_at]

theorem numerators_at (Q : Vec Ideal S1x1x16x64 .bf16) (K V : Vec Ideal S1x1024x16x64 .bf16) (j : Fin 1024) :
    k0_pay14 (k0_pay4 K) (k0_pay5 V) (k0_pay6 Q) rows k0_pay7 k0_pay8 k0_pay9 (col j)
      = ∑ k, V (ix4 0 k (headOf j) (laneOf j)) * Ideal.exp (score Q K k (headOf j) - top Q K (headOf j)) := by
  pointwise [k0_pay14]
  refine Finset.sum_congr rfl fun k _ => ?_
  show k0_pay5 V (ix2 k j) * ∑ h, k0_pay13 (k0_pay4 K) (k0_pay6 Q) (ix2 k h) * expander (F := Ideal) (ix2 h j) = _
  rw [expanded fun h => k0_pay13 (k0_pay4 K) (k0_pay6 Q) (ix2 k h), values_at, weights_at]

theorem maxima_at (Q : Vec Ideal S1x1x16x64 .bf16) (K : Vec Ideal S1x1024x16x64 .bf16) (h : Fin 16) :
    k0_pay15 (k0_pay4 K) (k0_pay6 Q) (lane h) = top Q K h := by
  pointwise [k0_pay15]
  exact tops_at Q K h

theorem normalizers_at (Q : Vec Ideal S1x1x16x64 .bf16) (K : Vec Ideal S1x1024x16x64 .bf16) (h : Fin 16) :
    k0_pay16 (k0_pay4 K) (k0_pay6 Q) (lane h) = ∑ k, Ideal.exp (score Q K k h - top Q K h) := by
  pointwise [k0_pay16]
  exact Finset.sum_congr rfl fun k _ => weights_at Q K k h

/-! ## The combination -/

/-- The largest of the group's maxima. -/
def peak (M : Vec Ideal S4x1x16x16 .f32) (b h : Fin 16) : EReal := Finset.univ.fold max ⊥ fun r : Fin 4 => M (ix4 r 0 b h)

theorem factors_at (M : Vec Ideal S4x1x16x16 .f32) (r : Fin 4) (b h : Fin 16) :
    k0_pay1 M (ix3 r b h) = Ideal.exp (M (ix4 r 0 b h) - peak M b h) := by
  pointwise [k0_pay1]
  rw [lowest_f32]
  rfl

theorem denominators_at (M L : Vec Ideal S4x1x16x16 .f32) (b : Fin 16) (j : Fin 1024) :
    k0_pay2 expander M L (ix2 b j)
      = ∑ r : Fin 4, L (ix4 r 0 b (headOf j)) * Ideal.exp (M (ix4 r 0 b (headOf j)) - peak M b (headOf j)) := by
  pointwise [k0_pay2]
  refine (expanded (fun h => ∑ r, L (ix4 r 0 b h) * k0_pay1 M (ix3 r b h)) j).trans ?_
  simp only [factors_at]

theorem combined_at (M : Vec Ideal S4x1x16x16 .f32) (O : Vec Ideal S4x16x1024 .f32) (b : Fin 16) (j : Fin 1024) :
    k0_pay3 expander M O (ix2 b j)
      = ∑ r : Fin 4, O (ix3 r b j) * Ideal.exp (M (ix4 r 0 b (headOf j)) - peak M b (headOf j)) := by
  pointwise [k0_pay3]
  refine Finset.sum_congr rfl fun r _ => ?_
  refine congrArg (O (ix3 r b j) * ·) ((expanded (fun h => k0_pay1 M (ix3 r b h)) j).trans ?_)
  exact factors_at M r b (headOf j)

theorem quotient_at (L O : FVec Ideal S16x1024 .f32) (b h : Fin 16) (d : Fin 64) :
    k0_pay17 L O (ix4 b 0 h d)
      = Ideal.div (O (ix2 b ⟨h.val * 64 + d.val, by omega⟩)) (L (ix2 b ⟨h.val * 64 + d.val, by omega⟩)) := by
  pointwise [k0_pay17]

end Cert.Flash

end
-- ==== Proof.RefValue.lean ====
/-
The reference program's result, entry by entry.
-/
module

public import proofs.«01_k».proof.Proof.Gen.ReferenceIdeal.Run
public import proofs.«01_k».proof.Proof.KernelValue

@[expose] public section

noncomputable section

open Idealize.ShloMosaic

namespace Cert.Flash.Plain

open Cert.ReferenceIdeal Cert.ReferenceIdeal.Gen

/-- The scaled products of the query with the keys. -/
def products (Q : FVec Ideal S16x1x16x64 .bf16) (K : FVec Ideal S16x4096x16x64 .bf16) : FVec Ideal S16x16x1x4096 .bf16 :=
  mulf (truncf .bf16 (Host.dotGeneral dot_S16x1x16x64_S16x4096x16x64_S16x16x1x4096_3_3_1_1_02_02 none Q K) bitsLt_bf16_f32)
    (broadcastInDim S16x16x1x4096 ![] bcast_S_S16x16x1x4096 (constant S_ .bf16 0x3E00#16))

/-- The exponentials of the products, each less the largest in its row. -/
def exponentials (P : FVec Ideal S16x16x1x4096 .bf16) : FVec Ideal S16x16x1x4096 .bf16 :=
  Host.exp (subf P (broadcastInDim S16x16x1x4096 ![0, 1, 2, 3] bcast_S16x16x1x1_S16x16x1x4096_0_1_2_3
    (broadcastInDim S16x16x1x1 ![0, 1, 2] bcast_S16x16x1_S16x16x1x1_0_1_2
      (Host.reduce FloatOps.maximumf P (constant S_ .bf16 0xFF80#16) reducesTo_S16x16x1x4096_S16x16x1_d3 h_S_))))

/-- Each exponential over the sum of its row. -/
def shares (E : FVec Ideal S16x16x1x4096 .bf16) : FVec Ideal S16x16x1x4096 .bf16 :=
  Host.divf E (broadcastInDim S16x16x1x4096 ![0, 1, 2, 3] bcast_S16x16x1x1_S16x16x1x4096_0_1_2_3
    (truncf .bf16 (broadcastInDim S16x16x1x1 ![0, 1, 2] bcast_S16x16x1_S16x16x1x1_0_1_2
      (Host.reduceAdd (extf .f32 E bitsLt_bf16_f32) (constant S_ .f32 0x00000000#32) reducesTo_S16x16x1x4096_S16x16x1_d3 h_S_)) bitsLt_bf16_f32))

/-- The values weighed by the shares. -/
def attention (V : FVec Ideal S16x4096x16x64 .bf16) (W : FVec Ideal S16x16x1x4096 .bf16) : FVec Ideal S16x1x16x64 .f32 :=
  extf .f32 (truncf .bf16 (transpose S16x1x16x64 [0, 3, 1, 2]
    (Host.dotGeneral dot_S16x4096x16x64_S16x16x1x4096_S16x16x64x1_1_3_3_2_02_01 none V W)
    transposes_S16x16x64x1_S16x1x16x64_0_3_1_2) bitsLt_bf16_f32) bitsLt_bf16_f32

/-- One product: over the 64 lanes of a head, an eighth of the sum. -/
def product (Q : FVec Ideal S16x1x16x64 .bf16) (K : FVec Ideal S16x4096x16x64 .bf16) (b h : Fin 16) (k : Fin 4096) : EReal :=
  (∑ d : Fin 64, Q (ix4 b 0 h d) * K (ix4 b k h d)) * ((1 / 8 : ℝ) : EReal)

/-- The largest product of a row. -/
def largest (Q : FVec Ideal S16x1x16x64 .bf16) (K : FVec Ideal S16x4096x16x64 .bf16) (b h : Fin 16) : EReal :=
  Finset.univ.fold max ⊥ fun k : Fin 4096 => product Q K b h k

theorem products_at (Q : FVec Ideal S16x1x16x64 .bf16) (K : FVec Ideal S16x4096x16x64 .bf16) (b h : Fin 16) (k : Fin 4096) :
    products Q K (ix4 b h 0 k) = product Q K b h k := by
  pointwise [products, product]
  rw [scale_bf16]

theorem exponentials_at (P : FVec Ideal S16x16x1x4096 .bf16) (b h : Fin 16) (k : Fin 4096) :
    exponentials P (ix4 b h 0 k) = Ideal.exp (P (ix4 b h 0 k) - Finset.univ.fold max ⊥ fun k' : Fin 4096 => P (ix4 b h 0 k')) := by
  pointwise [exponentials]
  rw [lowest_bf16]

theorem shares_at (E : FVec Ideal S16x16x1x4096 .bf16) (b h : Fin 16) (k : Fin 4096) :
    shares E (ix4 b h 0 k) = Ideal.div (E (ix4 b h 0 k)) (∑ k' : Fin 4096, E (ix4 b h 0 k')) := by
  pointwise [shares]

theorem attention_at (V : FVec Ideal S16x4096x16x64 .bf16) (W : FVec Ideal S16x16x1x4096 .bf16) (b h : Fin 16) (d : Fin 64) :
    attention V W (ix4 b 0 h d) = ∑ k : Fin 4096, V (ix4 b k h d) * W (ix4 b h 0 k) := by
  pointwise [attention]

theorem result_at (Q : FVec Ideal S16x1x16x64 .bf16) (K V : FVec Ideal S16x4096x16x64 .bf16) (b h : Fin 16) (d : Fin 64) :
    attention V (shares (exponentials (products Q K))) (ix4 b 0 h d)
      = ∑ k : Fin 4096, V (ix4 b k h d) * Ideal.div (Ideal.exp (product Q K b h k - largest Q K b h))
          (∑ k' : Fin 4096, Ideal.exp (product Q K b h k' - largest Q K b h)) := by
  simp only [attention_at, shares_at, exponentials_at, products_at]
  rfl

end Cert.Flash.Plain

end
-- ==== Proof.Algebraic.lean ====
/-
Where the keys lie on the devices, and the kernel's result against the reference's.
-/
module

public import proofs.«01_k».proof.Proof.Frames
public import proofs.«01_k».proof.Proof.Blocks
public import proofs.«01_k».proof.Proof.RefValue

@[expose] public section

noncomputable section

namespace Cert.Flash

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable (m : (ℓ : Loc nD τ sig) → Buf (Elt Ideal) ℓ)

/-! ## The kernel's result at an entry -/

/-- Score `k` of head `h` in row `b`, on the device `r` places after `c`. -/
def scoreOn (c : Dev nD) (b h : Fin 16) (r : Fin 4) (k : Fin 1024) : EReal :=
  score (qAt m (mate r c) (pt b)) (kAt m (mate r c) (pt b)) k h

/-- Entry `d` of that device's value `k`. -/
def valueOn (c : Dev nD) (b h : Fin 16) (d : Fin 64) (r : Fin 4) (k : Fin 1024) : EReal :=
  m (((mate r c : Dev nD) : Thread nD τ).loc main_arg2) (ix4 b k h d)

/-- The largest of that device's scores. -/
def topOn (c : Dev nD) (b h : Fin 16) (r : Fin 4) : EReal :=
  Finset.univ.fold max ⊥ fun k => scoreOn m c b h r k

/-- The largest over the four devices. -/
def peakOn (c : Dev nD) (b h : Fin 16) : EReal := Finset.univ.fold max ⊥ fun r => topOn m c b h r

theorem maxes_at (c : Dev nD) (r : Fin 4) (b h : Fin 16) : maxes m c (ix4 r 0 b h) = topOn m c b h r :=
  (maxes_row m c r b h).trans (maxima_at _ _ h)

theorem sums_at (c : Dev nD) (r : Fin 4) (b h : Fin 16) :
    sums m c (ix4 r 0 b h) = ∑ k, Ideal.exp (scoreOn m c b h r k - topOn m c b h r) :=
  (sums_row m c r b h).trans (normalizers_at _ _ h)

theorem nums_at (c : Dev nD) (r : Fin 4) (b : Fin 16) (j : Fin 1024) :
    nums m c (ix3 r b j) = ∑ k, valueOn m c b (headOf j) (laneOf j) r k
      * Ideal.exp (scoreOn m c b (headOf j) r k - topOn m c b (headOf j) r) := by
  refine (nums_row m c r b j).trans ((numerators_at _ _ _ j).trans ?_)
  refine Finset.sum_congr rfl fun k _ => ?_
  rw [values_row]
  rfl

theorem peak_on (c : Dev nD) (b h : Fin 16) : peak (maxes m c) b h = peakOn m c b h := by
  unfold peak peakOn
  simp only [maxes_at]

theorem out_at (c : Dev nD) (b h : Fin 16) (d : Fin 64) :
    outAt m c (ix4 b 0 h d)
      = Ideal.div
          (∑ r, (∑ k, valueOn m c b h d r k * Ideal.exp (scoreOn m c b h r k - topOn m c b h r))
            * Ideal.exp (topOn m c b h r - peakOn m c b h))
          (∑ r, (∑ k, Ideal.exp (scoreOn m c b h r k - topOn m c b h r)) * Ideal.exp (topOn m c b h r - peakOn m c b h)) := by
  have e1 : headOf ⟨h.val * 64 + d.val, by omega⟩ = h := Fin.ext (by show (h.val * 64 + d.val) / 64 = h.val; omega)
  have e2 : laneOf ⟨h.val * 64 + d.val, by omega⟩ = d := Fin.ext (by show (h.val * 64 + d.val) % 64 = d.val; omega)
  refine (quotient_at _ _ b h d).trans ?_
  rw [combined_at, denominators_at]
  simp only [maxes_at, sums_at, nums_at, peak_on, e1, e2]

/-! ## The row of keys, cut in four -/

/-- The device `r` places after a device of residue `c` holds the quarter `(c + r) % 4`: a renumbering of the quarters. -/
def quarter (c : Dev nD) : Fin 4 ≃ Fin 4 where
  toFun r := ⟨(c.val + r.val) % 4, Nat.mod_lt _ (by omega)⟩
  invFun r := ⟨(r.val + 4 - c.val % 4) % 4, Nat.mod_lt _ (by omega)⟩
  left_inv r := Fin.ext (by show ((c.val + r.val) % 4 + 4 - c.val % 4) % 4 = r.val; omega)
  right_inv r := Fin.ext (by show (c.val + (r.val + 4 - c.val % 4) % 4) % 4 = r.val; omega)

/-- The place of a device's key `k` in the whole row. -/
def place (c : Dev nD) (r : Fin 4) (k : Fin 1024) : Fin 4096 :=
  ⟨(quarter c r).val * 1024 + k.val, by have := (quarter c r).isLt; omega⟩

theorem sum_row (c : Dev nD) (f : Fin 4096 → EReal) : ∑ k, f k = ∑ r, ∑ k, f (place c r k) := by
  rw [Fin.sum_univ_tiles 4 1024 (by norm_num) f]
  exact (Equiv.sum_comp (quarter c) fun r => ∑ k : Fin 1024, f ⟨r.val * 1024 + k.val, by omega⟩).symm

/-! ## The kernel against the reference -/

section Against

variable (Q : FVec Ideal S16x1x16x64 .bf16) (K V : FVec Ideal Cert.ReferenceIdeal.S16x4096x16x64 .bf16)

theorem score_place (hQ : ∀ c : Dev nD, m ((c : Thread nD τ).loc main_arg0) = Q)
    (hK : ∀ (c : Dev nD) (r : Fin 4) (b : Fin 16) (k : Fin 1024) (h : Fin 16) (d : Fin 64),
      m (((mate r c : Dev nD) : Thread nD τ).loc main_arg1) (ix4 b k h d) = K (ix4 b (place c r k) h d))
    (c : Dev nD) (b h : Fin 16) (r : Fin 4) (k : Fin 1024) :
    scoreOn m c b h r k = Plain.product Q K b h (place c r k) := by
  unfold scoreOn score Plain.product
  refine congrArg (· * ((1 / 8 : ℝ) : EReal)) (Finset.sum_congr rfl fun d _ => ?_)
  rw [keys_row, query_row, hK, hQ, mul_comm]

theorem product_finite (fQ : ∀ i, Finite (Q i)) (fK : ∀ i, Finite (K i)) (b h : Fin 16) (k : Fin 4096) :
    Finite (Plain.product Q K b h k) :=
  (Finite.sum _ _ fun d => (fQ _).mul (fK _)).mul ⟨_, rfl⟩

theorem result_agrees (hQ : ∀ c : Dev nD, m ((c : Thread nD τ).loc main_arg0) = Q)
    (hK : ∀ (c : Dev nD) (r : Fin 4) (b : Fin 16) (k : Fin 1024) (h : Fin 16) (d : Fin 64),
      m (((mate r c : Dev nD) : Thread nD τ).loc main_arg1) (ix4 b k h d) = K (ix4 b (place c r k) h d))
    (hV : ∀ (c : Dev nD) (r : Fin 4) (b : Fin 16) (k : Fin 1024) (h : Fin 16) (d : Fin 64),
      m (((mate r c : Dev nD) : Thread nD τ).loc main_arg2) (ix4 b k h d) = V (ix4 b (place c r k) h d))
    (fQ : ∀ i, Finite (Q i)) (fK : ∀ i, Finite (K i)) (c : Dev nD) :
    outAt m c = Plain.attention V (Plain.shares (Plain.exponentials (Plain.products Q K))) := by
  funext i
  obtain ⟨b, z, h, d, rfl⟩ : ∃ (b : Fin 16) (z : Fin 1) (h : Fin 16) (d : Fin 64), i = ix4 b z h d :=
    ⟨i 0, i 1, i 2, i 3, by funext a; fin_cases a <;> rfl⟩
  obtain rfl : z = 0 := Subsingleton.elim _ _
  rw [Plain.result_at, sum_row c (fun k' => Ideal.exp (Plain.product Q K b h k' - Plain.largest Q K b h)), sum_row c]
  have fs : ∀ r k, Finite (scoreOn m c b h r k) := fun r k => by
    rw [score_place m Q K hQ hK]
    exact product_finite Q K fQ fK b h _
  have ft : ∀ r, Finite (topOn m c b h r) := fun r => Finite.fold_max _ Finset.univ_nonempty _ (fs r)
  refine (out_at m c b h d).trans ((combined (scoreOn m c b h) (valueOn m c b h d) (topOn m c b h) (peakOn m c b h) (Plain.largest Q K b h) fs ft
    (Finite.fold_max _ Finset.univ_nonempty _ ft)
    (Finite.fold_max _ Finset.univ_nonempty _ fun k => product_finite Q K fQ fK b h k)).trans ?_)
  simp only [score_place m Q K hQ hK, valueOn, hV]

end Against

/-! ## The claim -/

/-- A number whose size is below plus infinity is real. -/
theorem finite_of_below {x : EReal} (h : Ideal.cmp .olt (max x (-x)) ⊤ = 1#1) : Finite x := by
  have h' : max x (-x) < ⊤ := by
    by_contra hn
    simp [Ideal.cmp, hn] at h
  refine Finite.of_ne (fun e => ?_) (fun e => ?_)
  · subst e; simp at h'
  · subst e; simp at h'

theorem queries_finite (m : (ℓ : Loc nD τ sig) → Buf (Elt Ideal) ℓ)
    (h : Cert.Pre_KernelIdeal_finite_queries_and_keys_KernelIdeal m) (c : Dev nD) (i : S16x1x16x64.Idx) :
    Finite (m ((c : Thread nD τ).loc main_arg0) i) := by
  have h0 := congrFun (h c).1 i
  refine finite_of_below ?_
  rw [← infinity_bf16]
  exact h0

theorem keys_finite (m : (ℓ : Loc nD τ sig) → Buf (Elt Ideal) ℓ)
    (h : Cert.Pre_KernelIdeal_finite_queries_and_keys_KernelIdeal m) (c : Dev nD) (i : S16x1024x16x64.Idx) :
    Finite (m ((c : Thread nD τ).loc main_arg1) i) := by
  have h0 := congrFun (h c).2 i
  refine finite_of_below ?_
  rw [← infinity_bf16]
  exact h0

/-- The quarter of the row that a device holds. -/
theorem block_place {α : Type} (X : Cert.ReferenceIdeal.S16x4096x16x64.Idx → α) (c : Dev nD) (r : Fin 4) (b : Fin 16) (k : Fin 1024) (h : Fin 16) (d : Fin 64) :
    (Layout.blockN ⟨4, ![16, 1024, 16, 64]⟩ ⟨4, ![16, 4096, 16, 64]⟩ (Layout.meshBlock [2, 4, 4] ![[], [2], [], []] (mate r c)) X) (ix4 b k h d)
      = X (ix4 b (place c r k) h d) := by
  have e : Layout.meshLin [2, 4, 4] (mate r c).val [2] = (quarter c r).val := by
    show (c.val / 4 * 4 + (c.val + r.val) % 4) / 1 % 4 * 1 + 0 = (c.val + r.val) % 4
    omega
  rw [Layout.blockN_apply]
  refine congrArg X ?_
  funext a
  refine Fin.ext ?_
  rw [Layout.TilesN.idx_val]
  fin_cases a
  · show 0 * 16 + b.val = b.val; omega
  · show Layout.meshLin [2, 4, 4] (mate r c).val [2] * 1024 + k.val = (quarter c r).val * 1024 + k.val
    rw [e]
  · show 0 * 16 + h.val = h.val; omega
  · show 0 * 64 + d.val = d.val; omega

theorem algebraic : Cert.algebraic_KernelIdeal_ReferenceIdeal_pre_finite_queries_and_keys_KernelIdeal
    (hKernelIdeal := Cert.KernelIdeal.Gen.facts) (hReferenceIdeal := Cert.ReferenceIdeal.Gen.facts)
    (hPre_finite_queries_and_keys_KernelIdeal := kernelCondition) := by
  intro m g m' g' hpre hargs
  have hQ : ∀ c : Dev nD, m ((c : Thread nD τ).loc main_arg0)
      = m' (((0 : Dev Cert.ReferenceIdeal.nD).tc : Thread Cert.ReferenceIdeal.nD Cert.ReferenceIdeal.τ).loc Cert.ReferenceIdeal.main_arg0) := fun c => (hargs c).1
  have hK : ∀ (c : Dev nD) (r : Fin 4) (b : Fin 16) (k : Fin 1024) (h : Fin 16) (d : Fin 64),
      m (((mate r c : Dev nD) : Thread nD τ).loc main_arg1) (ix4 b k h d)
        = m' (((0 : Dev Cert.ReferenceIdeal.nD).tc : Thread Cert.ReferenceIdeal.nD Cert.ReferenceIdeal.τ).loc Cert.ReferenceIdeal.main_arg1) (ix4 b (place c r k) h d) :=
    fun c r b k h d => (congrFun (hargs (mate r c)).2.1 (ix4 b k h d)).trans (block_place _ c r b k h d)
  have hV : ∀ (c : Dev nD) (r : Fin 4) (b : Fin 16) (k : Fin 1024) (h : Fin 16) (d : Fin 64),
      m (((mate r c : Dev nD) : Thread nD τ).loc main_arg2) (ix4 b k h d)
        = m' (((0 : Dev Cert.ReferenceIdeal.nD).tc : Thread Cert.ReferenceIdeal.nD Cert.ReferenceIdeal.τ).loc Cert.ReferenceIdeal.main_arg2) (ix4 b (place c r k) h d) :=
    fun c r b k h d => (congrFun (hargs (mate r c)).2.2 (ix4 b k h d)).trans (block_place _ c r b k h d)
  have fQ : ∀ i, Finite (m' (((0 : Dev Cert.ReferenceIdeal.nD).tc : Thread Cert.ReferenceIdeal.nD Cert.ReferenceIdeal.τ).loc Cert.ReferenceIdeal.main_arg0) i) := fun i => by
    rw [← hQ 0]
    exact queries_finite m hpre 0 i
  have fK : ∀ i, Finite (m' (((0 : Dev Cert.ReferenceIdeal.nD).tc : Thread Cert.ReferenceIdeal.nD Cert.ReferenceIdeal.τ).loc Cert.ReferenceIdeal.main_arg1) i) := fun i => by
    obtain ⟨b, n, h, d, rfl⟩ : ∃ (b : Fin 16) (n : Fin 4096) (h : Fin 16) (d : Fin 64), i = ix4 b n h d :=
      ⟨i 0, i 1, i 2, i 3, by funext a; fin_cases a <;> rfl⟩
    have e : n = place 0 ⟨n.val / 1024, by omega⟩ ⟨n.val % 1024, by omega⟩ :=
      Fin.ext (by show n.val = (0 + n.val / 1024) % 4 * 1024 + n.val % 1024; omega)
    rw [e, ← hK]
    exact keys_finite m hpre _ _
  refine ⟨_, (θ_run _ _ _).mono (fun r h c => ⟨((h.1 c).2.2.2.trans (result_array m c)).trans
      (result_agrees m _ _ _ hQ hK hV fQ fK c), (h.1 c).1, (h.1 c).2.1, (h.1 c).2.2.1⟩) (run_result m g),
    (θ_run _ _ _).mono (fun r h => h 0) (Cert.ReferenceIdeal.Value.run (F := Ideal) m' g')⟩

end Cert.Flash

end
-- ==== Proof.lean ====
/-
The claims about the kernel and its reference, put together.
-/
module

public import proofs.«01_k».proof.Defs
public import proofs.«01_k».proof.Proof.Frames
public import proofs.«01_k».proof.Proof.Algebraic

@[expose] public section

noncomputable section

namespace Cert.Proof

open Idealize.ShloMosaic

theorem claim : Cert.Claim := ⟨Cert.Kernel.Gen.facts, Cert.KernelIdeal.Gen.facts, Cert.ReferenceIdeal.Gen.facts,
  Cert.Flash.kernelCondition, Cert.Flash.referenceCondition,
  Cert.Flash.kernel_frame, Cert.Flash.ideal_frame, fun m g _ => Cert.Flash.args_kept (F := Ideal) m g,
  Cert.Flash.reference_frame, fun m g _ => Cert.Flash.reference_args m g, trivial, Cert.Flash.algebraic⟩

end Cert.Proof

end
